-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![4096, 2048]⟩ ⟨2, ![8192, 2048]⟩ (Layout.meshBlock [2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![8192, 1024]⟩ ⟨2, ![8192, 2048]⟩ (Layout.meshBlock [2, 2] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x2048 : Shape := ⟨2, ![4096, 2048]⟩
abbrev S8192x1024 : Shape := ⟨2, ![8192, 1024]⟩
abbrev S2048x1024 : Shape := ⟨2, ![2048, 1024]⟩
abbrev S4096x1024 : Shape := ⟨2, ![4096, 1024]⟩
abbrev S16 : Shape := ⟨1, ![16]⟩
abbrev S4 : Shape := ⟨1, ![4]⟩
abbrev S_ : Shape := ⟨0, ![]⟩
abbrev S1 : Shape := ⟨1, ![1]⟩
abbrev S128x1024 : Shape := ⟨2, ![128, 1024]⟩
abbrev S1024x1024 : Shape := ⟨2, ![1024, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S8192x1024, .bf16⟩
  | .local _ .vmem, ⟨0, _⟩ => ⟨S2048x1024, .f32⟩
  | .local _ .vmem, ⟨1, _⟩ => ⟨S2048x1024, .bf16⟩
  | .local _ .vmem, ⟨2, _⟩ => ⟨S2048x1024, .bf16⟩
  | .local _ .vmem, ⟨3, _⟩ => ⟨S4096x1024, .f32⟩
  | .local _ .vmem, ⟨4, _⟩ => ⟨S4096x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v18 : BitVec 32 := Scalar.addi v17 c0_i32_12
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32 : BitVec 32 := 1024#32
  let v19 : BitVec 32 := Scalar.muli v6 c1024_i32
  ![v18.toNat, v19.toNat]
def k0_off2 (d0 : Dev nD) : Fin 2 → Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_79 : BitVec 32 := 1024#32
  let v129 : BitVec 32 := Scalar.muli v2 c1024_i32_79
  ![0, v129.toNat]
def k0_off3 (d0 : Dev nD) : Fin 2 → Nat :=
  let c1024_i32_88 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_84 : BitVec 32 := 1024#32
  let v134 : BitVec 32 := Scalar.muli v2 c1024_i32_84
  ![1024, v134.toNat]
def k0_off4 (d0 : Dev nD) : Fin 2 → Nat :=
  let c2048_i32_93 : BitVec 32 := 2048#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_89 : BitVec 32 := 1024#32
  let v139 : BitVec 32 := Scalar.muli v2 c1024_i32_89
  ![2048, v139.toNat]
def k0_off5 (d0 : Dev nD) : Fin 2 → Nat :=
  let c3072_i32_97 : BitVec 32 := 3072#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_94 : BitVec 32 := 1024#32
  let v144 : BitVec 32 := Scalar.muli v2 c1024_i32_94
  ![3072, v144.toNat]
def k0_dev3 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v161 : BitVec 32 := Scalar.muli v6 c2_i32_109
  let v162 : BitVec 32 := Scalar.addi c0_i32_110 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v163 : BitVec 32 := Scalar.muli v5 c1_i32_111
  let v164 : BitVec 32 := Scalar.addi v162 v163
  v164.toNat
def k0_dev4 (d0 : Dev nD) : Nat :=
  let c0_i32_128 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_127 : BitVec 32 := 2#32
  let v183 : BitVec 32 := Scalar.muli v6 c2_i32_127
  let v184 : BitVec 32 := Scalar.addi c0_i32_128 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_129 : BitVec 32 := 1#32
  let v185 : BitVec 32 := Scalar.muli v5 c1_i32_129
  let v186 : BitVec 32 := Scalar.addi v184 v185
  v186.toNat
def k0_dev5 (d0 : Dev nD) : Nat :=
  let c0_i32_146 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_145 : BitVec 32 := 2#32
  let v205 : BitVec 32 := Scalar.muli v6 c2_i32_145
  let v206 : BitVec 32 := Scalar.addi c0_i32_146 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_147 : BitVec 32 := 1#32
  let v207 : BitVec 32 := Scalar.muli v5 c1_i32_147
  let v208 : BitVec 32 := Scalar.addi v206 v207
  v208.toNat
def k0_dev6 (d0 : Dev nD) : Nat :=
  let c0_i32_164 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_163 : BitVec 32 := 2#32
  let v227 : BitVec 32 := Scalar.muli v6 c2_i32_163
  let v228 : BitVec 32 := Scalar.addi c0_i32_164 v227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_165 : BitVec 32 := 1#32
  let v229 : BitVec 32 := Scalar.muli v5 c1_i32_165
  let v230 : BitVec 32 := Scalar.addi v228 v229
  v230.toNat
def k0_dev7 (d0 : Dev nD) : Nat :=
  let c0_i32_182 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_181 : BitVec 32 := 2#32
  let v249 : BitVec 32 := Scalar.muli v6 c2_i32_181
  let v250 : BitVec 32 := Scalar.addi c0_i32_182 v249
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v251 : BitVec 32 := Scalar.muli v5 c1_i32_183
  let v252 : BitVec 32 := Scalar.addi v250 v251
  v252.toNat
def k0_dev8 (d0 : Dev nD) : Nat :=
  let c0_i32_200 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_199 : BitVec 32 := 2#32
  let v271 : BitVec 32 := Scalar.muli v6 c2_i32_199
  let v272 : BitVec 32 := Scalar.addi c0_i32_200 v271
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_201 : BitVec 32 := 1#32
  let v273 : BitVec 32 := Scalar.muli v5 c1_i32_201
  let v274 : BitVec 32 := Scalar.addi v272 v273
  v274.toNat
def k0_dev9 (d0 : Dev nD) : Nat :=
  let c0_i32_218 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_217 : BitVec 32 := 2#32
  let v293 : BitVec 32 := Scalar.muli v6 c2_i32_217
  let v294 : BitVec 32 := Scalar.addi c0_i32_218 v293
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v295 : BitVec 32 := Scalar.muli v5 c1_i32_219
  let v296 : BitVec 32 := Scalar.addi v294 v295
  v296.toNat
def k0_dev10 (d0 : Dev nD) : Nat :=
  let c0_i32_236 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_235 : BitVec 32 := 2#32
  let v315 : BitVec 32 := Scalar.muli v6 c2_i32_235
  let v316 : BitVec 32 := Scalar.addi c0_i32_236 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_237 : BitVec 32 := 1#32
  let v317 : BitVec 32 := Scalar.muli v5 c1_i32_237
  let v318 : BitVec 32 := Scalar.addi v316 v317
  v318.toNat
def k0_dev11 (d0 : Dev nD) : Nat :=
  let c0_i32_254 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_253 : BitVec 32 := 2#32
  let v337 : BitVec 32 := Scalar.muli v6 c2_i32_253
  let v338 : BitVec 32 := Scalar.addi c0_i32_254 v337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_255 : BitVec 32 := 1#32
  let v339 : BitVec 32 := Scalar.muli v5 c1_i32_255
  let v340 : BitVec 32 := Scalar.addi v338 v339
  v340.toNat
def k0_dev12 (d0 : Dev nD) : Nat :=
  let c0_i32_272 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_271 : BitVec 32 := 2#32
  let v359 : BitVec 32 := Scalar.muli v6 c2_i32_271
  let v360 : BitVec 32 := Scalar.addi c0_i32_272 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_273 : BitVec 32 := 1#32
  let v361 : BitVec 32 := Scalar.muli v5 c1_i32_273
  let v362 : BitVec 32 := Scalar.addi v360 v361
  v362.toNat
def k0_dev13 (d0 : Dev nD) : Nat :=
  let c0_i32_290 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_289 : BitVec 32 := 2#32
  let v381 : BitVec 32 := Scalar.muli v6 c2_i32_289
  let v382 : BitVec 32 := Scalar.addi c0_i32_290 v381
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_291 : BitVec 32 := 1#32
  let v383 : BitVec 32 := Scalar.muli v5 c1_i32_291
  let v384 : BitVec 32 := Scalar.addi v382 v383
  v384.toNat
def k0_dev14 (d0 : Dev nD) : Nat :=
  let c0_i32_308 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_307 : BitVec 32 := 2#32
  let v403 : BitVec 32 := Scalar.muli v6 c2_i32_307
  let v404 : BitVec 32 := Scalar.addi c0_i32_308 v403
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_309 : BitVec 32 := 1#32
  let v405 : BitVec 32 := Scalar.muli v5 c1_i32_309
  let v406 : BitVec 32 := Scalar.addi v404 v405
  v406.toNat
def k0_dev15 (d0 : Dev nD) : Nat :=
  let c0_i32_326 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_325 : BitVec 32 := 2#32
  let v425 : BitVec 32 := Scalar.muli v6 c2_i32_325
  let v426 : BitVec 32 := Scalar.addi c0_i32_326 v425
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_327 : BitVec 32 := 1#32
  let v427 : BitVec 32 := Scalar.muli v5 c1_i32_327
  let v428 : BitVec 32 := Scalar.addi v426 v427
  v428.toNat
def k0_dev16 (d0 : Dev nD) : Nat :=
  let c0_i32_344 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_343 : BitVec 32 := 2#32
  let v447 : BitVec 32 := Scalar.muli v6 c2_i32_343
  let v448 : BitVec 32 := Scalar.addi c0_i32_344 v447
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_345 : BitVec 32 := 1#32
  let v449 : BitVec 32 := Scalar.muli v5 c1_i32_345
  let v450 : BitVec 32 := Scalar.addi v448 v449
  v450.toNat
def k0_dev17 (d0 : Dev nD) : Nat :=
  let c0_i32_362 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_361 : BitVec 32 := 2#32
  let v469 : BitVec 32 := Scalar.muli v6 c2_i32_361
  let v470 : BitVec 32 := Scalar.addi c0_i32_362 v469
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_363 : BitVec 32 := 1#32
  let v471 : BitVec 32 := Scalar.muli v5 c1_i32_363
  let v472 : BitVec 32 := Scalar.addi v470 v471
  v472.toNat
def k0_dev18 (d0 : Dev nD) : Nat :=
  let c0_i32_380 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_379 : BitVec 32 := 2#32
  let v491 : BitVec 32 := Scalar.muli v6 c2_i32_379
  let v492 : BitVec 32 := Scalar.addi c0_i32_380 v491
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v493 : BitVec 32 := Scalar.muli v5 c1_i32_381
  let v494 : BitVec 32 := Scalar.addi v492 v493
  v494.toNat
def k0_off6 (d0 : Dev nD) (c0_i32_396 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c4096_i32 : BitVec 32 := 4096#32
  let v509 : BitVec 32 := Scalar.muli v6 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_395 : BitVec 32 := 2048#32
  let v510 : BitVec 32 := Scalar.muli v5 c2048_i32_395
  let v511 : BitVec 32 := Scalar.addi v509 v510
  let v512 : BitVec 32 := Scalar.addi v511 c0_i32_396
  let c0_i32_402 : BitVec 32 := 0#32
  ![v512.toNat, 0]
def k0_dev19 (d0 : Dev nD) : Nat :=
  let c0_i32_400 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_399 : BitVec 32 := 2#32
  let v513 : BitVec 32 := Scalar.muli v2 c2_i32_399
  let v514 : BitVec 32 := Scalar.addi c0_i32_400 v513
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_401 : BitVec 32 := 1#32
  let v515 : BitVec 32 := Scalar.muli v7 c1_i32_401
  let v516 : BitVec 32 := Scalar.addi v514 v515
  v516.toNat
def k0_dev20 (d0 : Dev nD) : Nat :=
  let c0_i32_427 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_426 : BitVec 32 := 2#32
  let v543 : BitVec 32 := Scalar.muli v2 c2_i32_426
  let v544 : BitVec 32 := Scalar.addi c0_i32_427 v543
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_428 : BitVec 32 := 1#32
  let v545 : BitVec 32 := Scalar.muli v7 c1_i32_428
  let v546 : BitVec 32 := Scalar.addi v544 v545
  v546.toNat
def k0_dev21 (d0 : Dev nD) : Nat :=
  let c0_i32_454 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_453 : BitVec 32 := 2#32
  let v573 : BitVec 32 := Scalar.muli v2 c2_i32_453
  let v574 : BitVec 32 := Scalar.addi c0_i32_454 v573
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_455 : BitVec 32 := 1#32
  let v575 : BitVec 32 := Scalar.muli v7 c1_i32_455
  let v576 : BitVec 32 := Scalar.addi v574 v575
  v576.toNat
def k0_dev22 (d0 : Dev nD) : Nat :=
  let c0_i32_481 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_480 : BitVec 32 := 2#32
  let v603 : BitVec 32 := Scalar.muli v2 c2_i32_480
  let v604 : BitVec 32 := Scalar.addi c0_i32_481 v603
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_482 : BitVec 32 := 1#32
  let v605 : BitVec 32 := Scalar.muli v7 c1_i32_482
  let v606 : BitVec 32 := Scalar.addi v604 v605
  v606.toNat
def k0_off7 (d0 : Dev nD) (c0_i32_503 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_502 : BitVec 32 := 4096#32
  let v631 : BitVec 32 := Scalar.muli v2 c4096_i32_502
  let v632 : BitVec 32 := Scalar.addi v631 c0_i32_503
  let c0_i32_505 : BitVec 32 := 0#32
  ![v632.toNat, 0]
def k0_dev23 (d0 : Dev nD) : Nat :=
  let c0_i32_523 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_522 : BitVec 32 := 2#32
  let v649 : BitVec 32 := Scalar.muli v2 c2_i32_522
  let v650 : BitVec 32 := Scalar.addi c0_i32_523 v649
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_524 : BitVec 32 := 1#32
  let v651 : BitVec 32 := Scalar.muli v7 c1_i32_524
  let v652 : BitVec 32 := Scalar.addi v650 v651
  v652.toNat
def k0_dev24 (d0 : Dev nD) : Nat :=
  let c0_i32_550 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_549 : BitVec 32 := 2#32
  let v679 : BitVec 32 := Scalar.muli v2 c2_i32_549
  let v680 : BitVec 32 := Scalar.addi c0_i32_550 v679
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_551 : BitVec 32 := 1#32
  let v681 : BitVec 32 := Scalar.muli v7 c1_i32_551
  let v682 : BitVec 32 := Scalar.addi v680 v681
  v682.toNat
def k0_dev25 (d0 : Dev nD) : Nat :=
  let c0_i32_577 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_576 : BitVec 32 := 2#32
  let v709 : BitVec 32 := Scalar.muli v2 c2_i32_576
  let v710 : BitVec 32 := Scalar.addi c0_i32_577 v709
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_578 : BitVec 32 := 1#32
  let v711 : BitVec 32 := Scalar.muli v7 c1_i32_578
  let v712 : BitVec 32 := Scalar.addi v710 v711
  v712.toNat
def k0_dev26 (d0 : Dev nD) : Nat :=
  let c0_i32_604 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_603 : BitVec 32 := 2#32
  let v739 : BitVec 32 := Scalar.muli v2 c2_i32_603
  let v740 : BitVec 32 := Scalar.addi c0_i32_604 v739
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_605 : BitVec 32 := 1#32
  let v741 : BitVec 32 := Scalar.muli v7 c1_i32_605
  let v742 : BitVec 32 := Scalar.addi v740 v741
  v742.toNat
def k0_dev27 (d0 : Dev nD) : Nat :=
  let c0_i32_646 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_645 : BitVec 32 := 2#32
  let v785 : BitVec 32 := Scalar.muli v2 c2_i32_645
  let v786 : BitVec 32 := Scalar.addi c0_i32_646 v785
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_647 : BitVec 32 := 1#32
  let v787 : BitVec 32 := Scalar.muli v7 c1_i32_647
  let v788 : BitVec 32 := Scalar.addi v786 v787
  v788.toNat
def k0_dev28 (d0 : Dev nD) : Nat :=
  let c0_i32_673 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_672 : BitVec 32 := 2#32
  let v815 : BitVec 32 := Scalar.muli v2 c2_i32_672
  let v816 : BitVec 32 := Scalar.addi c0_i32_673 v815
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_674 : BitVec 32 := 1#32
  let v817 : BitVec 32 := Scalar.muli v7 c1_i32_674
  let v818 : BitVec 32 := Scalar.addi v816 v817
  v818.toNat
def k0_dev29 (d0 : Dev nD) : Nat :=
  let c0_i32_700 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_699 : BitVec 32 := 2#32
  let v845 : BitVec 32 := Scalar.muli v2 c2_i32_699
  let v846 : BitVec 32 := Scalar.addi c0_i32_700 v845
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_701 : BitVec 32 := 1#32
  let v847 : BitVec 32 := Scalar.muli v7 c1_i32_701
  let v848 : BitVec 32 := Scalar.addi v846 v847
  v848.toNat
def k0_dev30 (d0 : Dev nD) : Nat :=
  let c0_i32_727 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_726 : BitVec 32 := 2#32
  let v875 : BitVec 32 := Scalar.muli v2 c2_i32_726
  let v876 : BitVec 32 := Scalar.addi c0_i32_727 v875
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_728 : BitVec 32 := 1#32
  let v877 : BitVec 32 := Scalar.muli v7 c1_i32_728
  let v878 : BitVec 32 := Scalar.addi v876 v877
  v878.toNat
def k0_dev31 (d0 : Dev nD) : Nat :=
  let c0_i32_768 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_767 : BitVec 32 := 2#32
  let v921 : BitVec 32 := Scalar.muli v2 c2_i32_767
  let v922 : BitVec 32 := Scalar.addi c0_i32_768 v921
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_769 : BitVec 32 := 1#32
  let v923 : BitVec 32 := Scalar.muli v7 c1_i32_769
  let v924 : BitVec 32 := Scalar.addi v922 v923
  v924.toNat
def k0_dev32 (d0 : Dev nD) : Nat :=
  let c0_i32_795 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_794 : BitVec 32 := 2#32
  let v951 : BitVec 32 := Scalar.muli v2 c2_i32_794
  let v952 : BitVec 32 := Scalar.addi c0_i32_795 v951
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_796 : BitVec 32 := 1#32
  let v953 : BitVec 32 := Scalar.muli v7 c1_i32_796
  let v954 : BitVec 32 := Scalar.addi v952 v953
  v954.toNat
def k0_dev33 (d0 : Dev nD) : Nat :=
  let c0_i32_822 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_821 : BitVec 32 := 2#32
  let v981 : BitVec 32 := Scalar.muli v2 c2_i32_821
  let v982 : BitVec 32 := Scalar.addi c0_i32_822 v981
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_823 : BitVec 32 := 1#32
  let v983 : BitVec 32 := Scalar.muli v7 c1_i32_823
  let v984 : BitVec 32 := Scalar.addi v982 v983
  v984.toNat
def k0_dev34 (d0 : Dev nD) : Nat :=
  let c0_i32_849 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_848 : BitVec 32 := 2#32
  let v1011 : BitVec 32 := Scalar.muli v2 c2_i32_848
  let v1012 : BitVec 32 := Scalar.addi c0_i32_849 v1011
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_850 : BitVec 32 := 1#32
  let v1013 : BitVec 32 := Scalar.muli v7 c1_i32_850
  let v1014 : BitVec 32 := Scalar.addi v1012 v1013
  v1014.toNat
def k0_off8 (d0 : Dev nD) (c0_i32_877 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c4096_i32_875 : BitVec 32 := 4096#32
  let v1045 : BitVec 32 := Scalar.muli v6 c4096_i32_875
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c2048_i32_876 : BitVec 32 := 2048#32
  let v1046 : BitVec 32 := Scalar.muli v7 c2048_i32_876
  let v1047 : BitVec 32 := Scalar.addi v1045 v1046
  let v1048 : BitVec 32 := Scalar.addi v1047 c0_i32_877
  let c0_i32_883 : BitVec 32 := 0#32
  ![v1048.toNat, 0]
-- ==== Reference.lean ====
abbrev S8192x2048 : Shape := ⟨2, ![8192, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Loop.lean ====
/-
  The kernel's body as loops: the same operations in the same order, each loop over its chunk number.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-- A program of the kernel's body. -/
abbrev Code (F : FTy → Type) [FloatOps F] := Prog (TpuEff nD τ sig (Elt F) Λ₀ .tc) PUnit

/-! ## Rectangles -/

theorem inb_s (k : Fin 16) : ∀ a, (![128 * k.val, 0] : Fin 2 → Nat) a + S128x1024.size a ≤ S2048x1024.size a := by
  revert k; decide

theorem inb_l (j : Fin 4) : ∀ a, (![1024 * j.val, 0] : Fin 2 → Nat) a + S1024x1024.size a ≤ S4096x1024.size a := by
  revert j; decide

theorem inb_16 (k : Fin 16) : ∀ a, (![k.val] : Fin 1 → Nat) a + S1.size a ≤ S16.size a := by
  revert k; decide

theorem inb_4 (j : Fin 4) : ∀ a, (![j.val] : Fin 1 → Nat) a + S1.size a ≤ S4.size a := by
  revert j; decide

/-- Rows `128 k … 128 k + 127` of a travelling buffer. -/
abbrev rS (k : Fin 16) : Rect S2048x1024 := Rect.unit (s := S2048x1024) ![128 * k.val, 0] S128x1024.size (inb_s k)

/-- Rows `1024 j … 1024 j + 1023` of a local buffer. -/
abbrev rL (j : Fin 4) : Rect S4096x1024 := Rect.unit (s := S4096x1024) ![1024 * j.val, 0] S1024x1024.size (inb_l j)

theorem words_s (k : Fin 16) : (rS k).WholeWords (EltTy.packing .bf16) := by revert k; decide
theorem packed_s (k : Fin 16) : (rS k).PackedRows (EltTy.packing .bf16) := by revert k; decide
theorem words_l (j : Fin 4) : (rL j).WholeWords (EltTy.packing .bf16) := by revert j; decide
theorem packed_l (j : Fin 4) : (rL j).PackedRows (EltTy.packing .bf16) := by revert j; decide

/-- Where a local chunk starts in the argument. -/
def offXL (d : Dev nD) : Fin 4 → Fin 2 → Nat := ![k0_off2 d, k0_off3 d, k0_off4 d, k0_off5 d]

theorem offXL_inb (d : Dev nD) : ∀ (j : Fin 4) a, offXL d j a + S1024x1024.size a ≤ S4096x2048.size a
  | ⟨0, _⟩ => k0_off2_inb d
  | ⟨1, _⟩ => k0_off3_inb d
  | ⟨2, _⟩ => k0_off4_inb d
  | ⟨3, _⟩ => k0_off5_inb d

/-- The argument's chunk that goes to the neighbour along the first axis. -/
abbrev rXS (d : Dev nD) (k : Fin 16) : Rect S4096x2048 :=
  Rect.unit (s := S4096x2048) (k0_off1 d (BitVec.ofNat 32 (128 * k.val))) S128x1024.size (k0_off1_inb d k)

/-- The argument's chunk the device keeps. -/
abbrev rXL (d : Dev nD) (j : Fin 4) : Rect S4096x2048 :=
  Rect.unit (s := S4096x2048) (offXL d j) S1024x1024.size (offXL_inb d j)

/-- The result's rows the first hop's chunk fills, here and on the neighbour along the second axis. -/
abbrev rO6 (d : Dev nD) (k : Fin 16) : Rect S8192x1024 :=
  Rect.unit (s := S8192x1024) (k0_off6 d (BitVec.ofNat 32 (128 * k.val))) S128x1024.size (k0_off6_inb d k)

/-- The result's rows the device's own part fills. -/
abbrev rO7 (d : Dev nD) (j : Fin 4) : Rect S8192x1024 :=
  Rect.unit (s := S8192x1024) (k0_off7 d (BitVec.ofNat 32 (1024 * j.val))) S1024x1024.size (k0_off7_inb d j)

/-- The result's rows the second hop fills. -/
abbrev rO8 (d : Dev nD) (k : Fin 16) : Rect S8192x1024 :=
  Rect.unit (s := S8192x1024) (k0_off8 d (BitVec.ofNat 32 (128 * k.val))) S128x1024.size (k0_off8_inb d k)

/-! ## Buffers, their chunks, and semaphores -/

abbrev aX : Memref sig .tc .hbm S4096x2048 .f32 := Memref.whole main_arg0
abbrev aO : Memref sig .tc .hbm S8192x1024 .bf16 := Memref.whole main_v1
abbrev aXS : Memref sig .tc .vmem S2048x1024 .f32 := Memref.whole cc0_scratch0
abbrev aSB : Memref sig .tc .vmem S2048x1024 .bf16 := Memref.whole cc0_scratch1
abbrev aRB : Memref sig .tc .vmem S2048x1024 .bf16 := Memref.whole cc0_scratch2
abbrev aXL : Memref sig .tc .vmem S4096x1024 .f32 := Memref.whole cc0_scratch3
abbrev aLB : Memref sig .tc .vmem S4096x1024 .bf16 := Memref.whole cc0_scratch4

abbrev xS (d : Dev nD) (k : Fin 16) : Memref sig .tc .hbm S128x1024 .f32 := aX.slice (rXS d k) (fun _ => rfl)
abbrev xL (d : Dev nD) (j : Fin 4) : Memref sig .tc .hbm S1024x1024 .f32 := aX.slice (rXL d j) (fun _ => rfl)
abbrev o6 (d : Dev nD) (k : Fin 16) : Memref sig .tc .hbm S128x1024 .bf16 := aO.slice (rO6 d k) (fun _ => rfl)
abbrev o7 (d : Dev nD) (j : Fin 4) : Memref sig .tc .hbm S1024x1024 .bf16 := aO.slice (rO7 d j) (fun _ => rfl)
abbrev o8 (d : Dev nD) (k : Fin 16) : Memref sig .tc .hbm S128x1024 .bf16 := aO.slice (rO8 d k) (fun _ => rfl)
abbrev xs (k : Fin 16) : Memref sig .tc .vmem S128x1024 .f32 := aXS.slice (rS k) (fun _ => rfl)
abbrev sb (k : Fin 16) : Memref sig .tc .vmem S128x1024 .bf16 := aSB.slice (rS k) (fun _ => rfl)
abbrev rb (k : Fin 16) : Memref sig .tc .vmem S128x1024 .bf16 := aRB.slice (rS k) (fun _ => rfl)
abbrev xl (j : Fin 4) : Memref sig .tc .vmem S1024x1024 .f32 := aXL.slice (rL j) (fun _ => rfl)
abbrev lb (j : Fin 4) : Memref sig .tc .vmem S1024x1024 .bf16 := aLB.slice (rL j) (fun _ => rfl)

/-- Semaphore `k` of an array of sixteen. -/
abbrev at16 (a : DmaSems sig S16) (k : Fin 16) : DmaSem sig :=
  ((a.slice (Rect.unit (s := S16) ![k.val] S1.size (inb_16 k))).squeeze S_ squeezes_S1_S_).sem

/-- Semaphore `j` of an array of four. -/
abbrev at4 (a : DmaSems sig S4) (j : Fin 4) : DmaSem sig :=
  ((a.slice (Rect.unit (s := S4) ![j.val] S1.size (inb_4 j))).squeeze S_ squeezes_S1_S_).sem

/-- The barrier's semaphore. -/
abbrev barSem : Sem sig := (SemArray.scalar (sig.barrier 0 rfl) : Sems sig S_).sem

/-- The neighbour along the mesh's first axis, as the program computes it. -/
abbrev devX (d : Dev nD) : Dev nD := ⟨k0_dev3 d, k0_dev3_lt d⟩

/-- The neighbour along the mesh's second axis, as the program computes it. -/
abbrev devY (d : Dev nD) : Dev nD := ⟨k0_dev19 d, k0_dev19_lt d⟩

/-! ## One turn of each loop, with what follows it -/

/-- Start fetching travelling chunk `k`. -/
def fetchS (d : Dev nD) (k : Fin 16) (rest : Code F) : Code F :=
  .op (.enqueueDma (xS d k) (.here (xs k)) (.dma (at16 cc0_scratch5 k)) (View.wordExact_bits rfl) (View.wordExact_bits rfl)
    ⟨Or.inl rfl, trivial⟩) fun _ => rest

/-- Start fetching local chunk `j`. -/
def fetchL (d : Dev nD) (j : Fin 4) (rest : Code F) : Code F :=
  .op (.enqueueDma (xL d j) (.here (xl j)) (.dma (at4 cc0_scratch6 j)) (View.wordExact_bits rfl) (View.wordExact_bits rfl)
    ⟨Or.inl rfl, trivial⟩) fun _ => rest

/-- First hop: chunk `k` has arrived, round it, send it along the first axis. -/
def hop1 (d : Dev nD) (k : Fin 16) (rest : Code F) : Code F :=
  .op (.waitDma2 (at16 cc0_scratch5 k) (xS d k) (xs k) (View.wordExact_bits rfl) (View.wordExact_bits rfl)) fun _ =>
  .op (.load aXS (rS k).toLoadRect (View.loadsAt_vmem h_S128x1024)) fun v =>
  .op (.load aSB (rS k).toLoadRect (View.loadsAt_vmem h_S128x1024)) fun _ =>
  .op (.store aSB (rS k) (k0_pay1 v) Finset.univ (View.stores_vmem h_S128x1024 ((Memref.isWhole_whole _).storeExact_slice rfl _ (packed_s k)) (fun _ => rfl)) (.inl rfl)) fun _ =>
  .op (.enqueueDma (sb k) (.remote (Dev.tc (devX d)) (rb k) (.dma (at16 cc0_scratch9 k))) (.dma (at16 cc0_scratch10 k))
    ((Memref.isWhole_whole _).wordExact_slice rfl _ (words_s k)) ((Memref.isWhole_whole _).wordExact_slice rfl _ (words_s k))
    ⟨⟨rfl, Or.inl rfl⟩, trivial⟩) fun _ => rest

/-- Second hop: chunk `k` has landed, send it along the second axis and start writing it out here. -/
def hop2 (d : Dev nD) (k : Fin 16) (rest : Code F) : Code F :=
  .op (.waitDma2 (at16 cc0_scratch10 k) (sb k) (rb k) ((Memref.isWhole_whole _).wordExact_slice rfl _ (words_s k)) ((Memref.isWhole_whole _).wordExact_slice rfl _ (words_s k))) fun _ =>
  .op (.enqueueDma (rb k) (.remote (Dev.tc (devY d)) (o6 d k) (.dma (at16 cc0_scratch11 k))) (.dma (at16 cc0_scratch12 k))
    ((Memref.isWhole_whole _).wordExact_slice rfl _ (words_s k)) ((Memref.isWhole_whole _).wordExact_slice rfl _ (k0_off6_wordsbf16 d k))
    ⟨⟨rfl, Or.inl rfl⟩, trivial⟩) fun _ =>
  .op (.enqueueDma (rb k) (.here (o6 d k)) (.dma (at16 cc0_scratch7 k))
    ((Memref.isWhole_whole _).wordExact_slice rfl _ (words_s k)) ((Memref.isWhole_whole _).wordExact_slice rfl _ (k0_off6_wordsbf16 d k))
    ⟨Or.inl rfl, trivial⟩) fun _ => rest

/-- Local chunk `j` has arrived: round it and start writing it out. -/
def keep (d : Dev nD) (j : Fin 4) (rest : Code F) : Code F :=
  .op (.waitDma2 (at4 cc0_scratch6 j) (xL d j) (xl j) (View.wordExact_bits rfl) (View.wordExact_bits rfl)) fun _ =>
  .op (.load aXL (rL j).toLoadRect (View.loadsAt_vmem h_S1024x1024)) fun v =>
  .op (.load aLB (rL j).toLoadRect (View.loadsAt_vmem h_S1024x1024)) fun _ =>
  .op (.store aLB (rL j) (k0_pay18 v) Finset.univ (View.stores_vmem h_S1024x1024 ((Memref.isWhole_whole _).storeExact_slice rfl _ (packed_l j)) (fun _ => rfl)) (.inl rfl)) fun _ =>
  .op (.enqueueDma (lb j) (.here (o7 d j)) (.dma (at4 cc0_scratch8 j))
    ((Memref.isWhole_whole _).wordExact_slice rfl _ (words_l j)) ((Memref.isWhole_whole _).wordExact_slice rfl _ (k0_off7_wordsbf16 d j))
    ⟨Or.inl rfl, trivial⟩) fun _ => rest

/-- The second hop's chunk `k` from the other neighbour has landed. -/
def landed (d : Dev nD) (k : Fin 16) (rest : Code F) : Code F :=
  .op (.waitDma2 (at16 cc0_scratch12 k) (rb k) (o8 d k) ((Memref.isWhole_whole _).wordExact_slice rfl _ (words_s k)) ((Memref.isWhole_whole _).wordExact_slice rfl _ (k0_off8_wordsbf16 d k))) fun _ => rest

/-- Chunk `k` is written out and both its sends are done. -/
def drained (d : Dev nD) (k : Fin 16) (rest : Code F) : Code F :=
  .op (.waitDma2 (at16 cc0_scratch7 k) (rb k) (o6 d k) ((Memref.isWhole_whole _).wordExact_slice rfl _ (words_s k)) ((Memref.isWhole_whole _).wordExact_slice rfl _ (k0_off6_wordsbf16 d k))) fun _ =>
  .op (.waitDma2 (at16 cc0_scratch9 k) (rb k) (sb k) ((Memref.isWhole_whole _).wordExact_slice rfl _ (words_s k)) ((Memref.isWhole_whole _).wordExact_slice rfl _ (words_s k))) fun _ =>
  .op (.waitDma2 (at16 cc0_scratch11 k) (o6 d k) (rb k) ((Memref.isWhole_whole _).wordExact_slice rfl _ (k0_off6_wordsbf16 d k)) ((Memref.isWhole_whole _).wordExact_slice rfl _ (words_s k))) fun _ => rest

/-- Local chunk `j` is written out. -/
def kept (d : Dev nD) (j : Fin 4) (rest : Code F) : Code F :=
  .op (.waitDma2 (at4 cc0_scratch8 j) (lb j) (o7 d j) ((Memref.isWhole_whole _).wordExact_slice rfl _ (words_l j)) ((Memref.isWhole_whole _).wordExact_slice rfl _ (k0_off7_wordsbf16 d j))) fun _ => rest

/-! ## The loops -/

/-- The travelling chunks in order. -/
def ks : List (Fin 16) := [0, 1, 2, 3, 4, 5, 6, 7, 8, 9, 10, 11, 12, 13, 14, 15]

/-- The local chunks in order. -/
def js : List (Fin 4) := [0, 1, 2, 3]

/-- The four travelling chunks of turn `j` of the middle loop. -/
def four : Fin 4 → List (Fin 16) := ![[0, 1, 2, 3], [4, 5, 6, 7], [8, 9, 10, 11], [12, 13, 14, 15]]

/-- A turn of the middle loop: four second hops, then one local chunk. -/
def middle (d : Dev nD) (j : Fin 4) (rest : Code F) : Code F :=
  (four j).foldr (hop2 d) (keep d j rest)

/-- Everything after the barrier. -/
def work (d : Dev nD) : Code F :=
  ks.foldr (fetchS d) <| js.foldr (fetchL d) <| ks.foldr (hop1 d) <| js.foldr (middle d) <|
    ks.foldr (landed d) <| ks.foldr (drained d) <| js.foldr (kept d) (.ret ⟨⟩)

/-- The body on device `d`. -/
def code (d : Dev nD) : Code F :=
  .op (.semSignal (devX d) barSem 1) fun _ =>
  .op (.semSignal (devY d) barSem 1) fun _ =>
  .op (.semWait barSem 2) fun _ => work d

set_option maxRecDepth 100000 in
set_option maxHeartbeats 4000000 in
theorem body_eq_code (t : Fin cfg0.N) :
    (bodyAt0 t : Code F) = .op .deviceId fun d => code d := rfl

end Cert.Gather

end
-- ==== Proof.Contents.lean ====
/-
  The mesh's neighbours, what every buffer holds when it has been filled, and how the buffers fall into chunks.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

variable (m : (ℓ : Loc nD τ sig) → Buf (Elt F) ℓ)

/-! ## The mesh: device `c` sits at `(c / 2, c % 2)` -/

theorem devX_val (c : Dev nD) : (devX c).val = (c.val % 2 + 2) - 2 * (c.val / 2) := k0_dev3_eq c
theorem devY_val (c : Dev nD) : (devY c).val = (2 * (c.val / 2) + 1) - c.val % 2 := k0_dev19_eq c

theorem dev_lt (c : Dev nD) : c.val < 4 := c.isLt

theorem devX_devX (c : Dev nD) : devX (devX c) = c :=
  Fin.ext (by have := dev_lt c; have := devX_val c; have := devX_val (devX c); omega)

theorem devY_devY (c : Dev nD) : devY (devY c) = c :=
  Fin.ext (by have := dev_lt c; have := devY_val c; have := devY_val (devY c); omega)

/-- The neighbour along the first axis, as a pairing of the devices. -/
def pairX : Dev nD ≃ Dev nD := ⟨devX, devX, devX_devX, devX_devX⟩

/-- The neighbour along the second axis, as a pairing of the devices. -/
def pairY : Dev nD ≃ Dev nD := ⟨devY, devY, devY_devY, devY_devY⟩

/-! ## Contents -/

/-- A rectangular array given by row and column. -/
def on {d : Fin 2 → ℕ} {α : Type} (g : ℕ → ℕ → α) : (⟨2, d⟩ : Shape).Idx → α := fun i => g (i 0).val (i 1).val

/-- The rounding of one value. -/
def cvt (v : Elt F .f32) : Elt F .bf16 := FloatOps.truncf .bf16 bitsLt_bf16_f32 v

set_option backward.proofsInPublic true in
/-- Device `c`'s argument at row `r` and column `q`. -/
def xat (c : Dev nD) (r q : ℕ) : Elt F .f32 :=
  (m ((c : Thread nD τ).loc main_arg0) : S4096x2048.Idx → Elt F .f32)
    (Shape.pair (d := ![4096, 2048]) ⟨r % 4096, Nat.mod_lt _ (by decide)⟩ ⟨q % 2048, Nat.mod_lt _ (by decide)⟩)

set_option backward.proofsInPublic true in
/-- The device whose argument row `r` of `c`'s result comes from. -/
def origin (c : Dev nD) (r : ℕ) : Dev nD :=
  if r / 4096 = c.val / 2 then c else ⟨(2 * (1 - c.val / 2) + (r % 4096) / 2048) % 4, Nat.mod_lt _ (by decide)⟩

/-- What the fetched travelling rows hold. -/
def gXS (c : Dev nD) (r q : ℕ) : Elt F .f32 := xat m c (2048 * (c.val % 2) + r) (1024 * (1 - c.val / 2) + q)
/-- The same, rounded. -/
def gSB (c : Dev nD) (r q : ℕ) : Elt F .bf16 := cvt (gXS m c r q)
/-- What arrives from the neighbour along the first axis. -/
def gRB (c : Dev nD) (r q : ℕ) : Elt F .bf16 := gSB m (devX c) r q
/-- What the fetched local rows hold. -/
def gXL (c : Dev nD) (r q : ℕ) : Elt F .f32 := xat m c r (1024 * (c.val / 2) + q)
/-- The same, rounded. -/
def gLB (c : Dev nD) (r q : ℕ) : Elt F .bf16 := cvt (gXL m c r q)
/-- The result. -/
def gO (c : Dev nD) (r q : ℕ) : Elt F .bf16 := cvt (xat m (origin c r) (r % 4096) (1024 * (c.val / 2) + q))

abbrev CX (c : Dev nD) : Buf (Elt F) ((c : Thread nD τ).loc main_arg0) := m ((c : Thread nD τ).loc main_arg0)
abbrev CO (c : Dev nD) : Buf (Elt F) ((c : Thread nD τ).loc main_v1) := (on (gO m c) : S8192x1024.Idx → Elt F .bf16)
abbrev CXS (c : Dev nD) : Buf (Elt F) ((c : Thread nD τ).loc cc0_scratch0) := (on (gXS m c) : S2048x1024.Idx → Elt F .f32)
abbrev CSB (c : Dev nD) : Buf (Elt F) ((c : Thread nD τ).loc cc0_scratch1) := (on (gSB m c) : S2048x1024.Idx → Elt F .bf16)
abbrev CRB (c : Dev nD) : Buf (Elt F) ((c : Thread nD τ).loc cc0_scratch2) := (on (gRB m c) : S2048x1024.Idx → Elt F .bf16)
abbrev CXL (c : Dev nD) : Buf (Elt F) ((c : Thread nD τ).loc cc0_scratch3) := (on (gXL m c) : S4096x1024.Idx → Elt F .f32)
abbrev CLB (c : Dev nD) : Buf (Elt F) ((c : Thread nD τ).loc cc0_scratch4) := (on (gLB m c) : S4096x1024.Idx → Elt F .bf16)

omit [FloatOps F] in
/-- The argument by row and column. -/
theorem CX_eq (c : Dev nD) (i : S4096x2048.Idx) : (CX m c : S4096x2048.Idx → Elt F .f32) i = xat m c (i 0).val (i 1).val := by
  unfold xat
  refine congrArg (CX m c : S4096x2048.Idx → Elt F .f32) (Eq.trans (Shape.pair_eta i).symm ?_)
  refine congrArg₂ Shape.pair (Fin.ext ?_) (Fin.ext ?_)
  · exact (Nat.mod_eq_of_lt (i 0).isLt).symm
  · exact (Nat.mod_eq_of_lt (i 1).isLt).symm

/-! ## What a chunk reads -/

theorem read_xS (c : Dev nD) (k : Fin 16) (i : S128x1024.Idx) :
    (xS c k).view.read (Elt F) (CX m c) i = xat m c (2048 * (c.val % 2) + 128 * k.val + (i 0).val) (1024 - 1024 * (c.val / 2) + (i 1).val) := by
  refine (CX_eq m c ((rXS c k).emb i)).trans ?_
  simp only [Rect.emb_apply, Rect.off_unit, Rect.stride_unit, k0_off1_eq, Nat.one_mul]
  rfl

theorem offXL_eq (c : Dev nD) : ∀ j : Fin 4, offXL c j = ![1024 * j.val, 1024 * (c.val / 2)]
  | ⟨0, _⟩ => k0_off2_eq c
  | ⟨1, _⟩ => k0_off3_eq c
  | ⟨2, _⟩ => k0_off4_eq c
  | ⟨3, _⟩ => k0_off5_eq c

theorem read_xL (c : Dev nD) (j : Fin 4) (i : S1024x1024.Idx) :
    (xL c j).view.read (Elt F) (CX m c) i = xat m c (1024 * j.val + (i 0).val) (1024 * (c.val / 2) + (i 1).val) := by
  refine (CX_eq m c ((rXL c j).emb i)).trans ?_
  simp only [Rect.emb_apply, Rect.off_unit, Rect.stride_unit, offXL_eq, Nat.one_mul]
  rfl

theorem row_s (k : Fin 16) (i : S128x1024.Idx) : (((rS k).emb i) 0).val = 128 * k.val + (i 0).val := by
  simp only [Rect.emb_apply, Rect.off_unit, Rect.stride_unit, Nat.one_mul]; rfl
theorem col_s (k : Fin 16) (i : S128x1024.Idx) : (((rS k).emb i) 1).val = (i 1).val := by
  simp only [Rect.emb_apply, Rect.off_unit, Rect.stride_unit, Nat.one_mul]; exact Nat.zero_add _
theorem row_l (j : Fin 4) (i : S1024x1024.Idx) : (((rL j).emb i) 0).val = 1024 * j.val + (i 0).val := by
  simp only [Rect.emb_apply, Rect.off_unit, Rect.stride_unit, Nat.one_mul]; rfl
theorem col_l (j : Fin 4) (i : S1024x1024.Idx) : (((rL j).emb i) 1).val = (i 1).val := by
  simp only [Rect.emb_apply, Rect.off_unit, Rect.stride_unit, Nat.one_mul]; exact Nat.zero_add _

/-- A travelling buffer's chunk. -/
theorem on_s {α : Type} (g : ℕ → ℕ → α) (k : Fin 16) (i : S128x1024.Idx) :
    (on g : S2048x1024.Idx → α) ((rS k).emb i) = g (128 * k.val + (i 0).val) (i 1).val := by
  unfold on; rw [row_s, col_s]
/-- A local buffer's chunk. -/
theorem on_l {α : Type} (g : ℕ → ℕ → α) (j : Fin 4) (i : S1024x1024.Idx) :
    (on g : S4096x1024.Idx → α) ((rL j).emb i) = g (1024 * j.val + (i 0).val) (i 1).val := by
  unfold on; rw [row_l, col_l]

theorem on_6 {α : Type} (g : ℕ → ℕ → α) (c : Dev nD) (k : Fin 16) (i : S128x1024.Idx) :
    (on g : S8192x1024.Idx → α) ((rO6 c k).emb i) = g ((2048 * (c.val % 2) + 128 * k.val + 4096) - 4096 * (c.val / 2) + (i 0).val) (i 1).val := by
  unfold on; simp only [Rect.emb_apply, Rect.off_unit, Rect.stride_unit, k0_off6_eq, Nat.one_mul]
  exact congrArg (g _) (Nat.zero_add _)
theorem on_7 {α : Type} (g : ℕ → ℕ → α) (c : Dev nD) (j : Fin 4) (i : S1024x1024.Idx) :
    (on g : S8192x1024.Idx → α) ((rO7 c j).emb i) = g (4096 * (c.val / 2) + 1024 * j.val + (i 0).val) (i 1).val := by
  unfold on; simp only [Rect.emb_apply, Rect.off_unit, Rect.stride_unit, k0_off7_eq, Nat.one_mul]
  exact congrArg (g _) (Nat.zero_add _)

/-- The first hop fetches what it sends. -/
theorem fetchS_val (c : Dev nD) (k : Fin 16) (i : S128x1024.Idx) :
    (xs k).view.read (Elt F) (CXS m c) i = (xS c k).view.read (Elt F) (CX m c) i := by
  rw [read_xS]; refine (on_s (gXS m c) k i).trans ?_
  unfold gXS
  have := dev_lt c
  congr 1 <;> omega

/-- The local rows are fetched as they are. -/
theorem fetchL_val (c : Dev nD) (j : Fin 4) (i : S1024x1024.Idx) :
    (xl j).view.read (Elt F) (CXL m c) i = (xL c j).view.read (Elt F) (CX m c) i := by
  rw [read_xL]; exact on_l (gXL m c) j i

/-- Rounding a travelling chunk. -/
theorem roundS_val (c : Dev nD) (k : Fin 16) (i : S128x1024.Idx) :
    (sb k).view.read (Elt F) (CSB m c) i = (k0_pay1 ((xs k).view.read (Elt F) (CXS m c)) : FVec F S128x1024 .bf16) i := by
  refine (on_s (gSB m c) k i).trans ?_
  unfold k0_pay1
  rw [shapeCast_self]
  exact congrArg cvt (on_s (gXS m c) k i).symm

/-- Rounding a local chunk. -/
theorem roundL_val (c : Dev nD) (j : Fin 4) (i : S1024x1024.Idx) :
    (lb j).view.read (Elt F) (CLB m c) i = (k0_pay18 ((xl j).view.read (Elt F) (CXL m c)) : FVec F S1024x1024 .bf16) i := by
  refine (on_l (gLB m c) j i).trans ?_
  unfold k0_pay18
  rw [shapeCast_self]
  exact congrArg cvt (on_l (gXL m c) j i).symm

/-- The first hop delivers the sender's rounded chunk. -/
theorem hop1_val (c : Dev nD) (k : Fin 16) (i : S128x1024.Idx) :
    (rb k).view.read (Elt F) (CRB m (devX c)) i = (sb k).view.read (Elt F) (CSB m c) i := by
  refine (on_s (gRB m (devX c)) k i).trans ?_
  refine Eq.trans ?_ (on_s (gSB m c) k i).symm
  unfold gRB; rw [devX_devX]

/-- A row of the other half of the result, on this device or the next one along the second axis. -/
theorem other_row (c d : Dev nD) (hd : d.val / 2 = c.val / 2) (k : Fin 16) (i : S128x1024.Idx) :
    gO m d ((2048 * (c.val % 2) + 128 * k.val + 4096) - 4096 * (c.val / 2) + (i 0).val) (i 1).val
      = gRB m c (128 * k.val + (i 0).val) (i 1).val := by
  have hi : (i 0).val < 128 := (i 0).isLt
  have hk := k.isLt
  have hc := dev_lt c
  have hX := devX_val c
  unfold gO gRB gSB gXS
  have ho : origin d ((2048 * (c.val % 2) + 128 * k.val + 4096) - 4096 * (c.val / 2) + (i 0).val) = devX c := by
    unfold origin; rw [if_neg (by omega)]; exact Fin.ext (by rw [hX]; show _ % 4 = _; omega)
  rw [ho]
  congr 2 <;> omega

/-- Writing the landed chunk out on this device. -/
theorem out_val (c : Dev nD) (k : Fin 16) (i : S128x1024.Idx) :
    (o6 c k).view.read (Elt F) (CO m c) i = (rb k).view.read (Elt F) (CRB m c) i := by
  refine (on_6 (gO m c) c k i).trans ?_
  refine Eq.trans ?_ (on_s (gRB m c) k i).symm
  exact other_row m c c rfl k i

/-- The second hop delivers the landed chunk to the neighbour along the second axis. -/
theorem hop2_val (c : Dev nD) (k : Fin 16) (i : S128x1024.Idx) :
    (o6 c k).view.read (Elt F) (CO m (devY c)) i = (rb k).view.read (Elt F) (CRB m c) i := by
  refine (on_6 (gO m (devY c)) c k i).trans ?_
  refine Eq.trans ?_ (on_s (gRB m c) k i).symm
  exact other_row m c (devY c) (by have := dev_lt c; have := devY_val c; omega) k i

/-- Writing a local chunk out. -/
theorem outL_val (c : Dev nD) (j : Fin 4) (i : S1024x1024.Idx) :
    (o7 c j).view.read (Elt F) (CO m c) i = (lb j).view.read (Elt F) (CLB m c) i := by
  refine (on_7 (gO m c) c j i).trans ?_
  refine Eq.trans ?_ (on_l (gLB m c) j i).symm
  have hi : (i 0).val < 1024 := (i 0).isLt
  have hj := j.isLt
  have hc := dev_lt c
  unfold gO gLB gXL
  have ho : origin c (4096 * (c.val / 2) + 1024 * j.val + (i 0).val) = c := by
    unfold origin; exact if_pos (by omega)
  rw [ho]
  congr 2; omega

/-! ## Ownership of a chunk -/

/-- Device `c` holds the elements of `M` at share `q`, contents `f`. -/
abbrev held {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

omit [FloatOps F] in
/-- Elements just written with what `G` reads there hold `G`. -/
theorem written {sp : Space} {s : Shape} {e : EltTy} (c : Dev nD) (v : View sig .tc sp s e)
    (fd G : Buf (Elt F) (v.loc (c : Thread nD τ))) (w : s.Idx → Elt F e) (h : ∀ i, v.read (Elt F) G i = w i) :
    (v.loc (c : Thread nD τ) ↦[v.set]{fullShare} v.write (Elt F) fd w Finset.univ : sProp 𝕄) = v.loc (c : Thread nD τ) ↦[v.set]{fullShare} G := by
  refine pointsTo_congr fun i hi => ?_
  obtain ⟨x, -, rfl⟩ := Finset.mem_map.mp hi
  rw [View.write_emb_of_mem _ _ (Finset.mem_univ x), ← h, View.read_apply]
  generalize_proofs h1 h2
  exact cast_cast h2 h1 _

/-! ## How the buffers fall into chunks -/

omit [FloatOps F] in
/-- A buffer cut by a tag on its elements. -/
theorem by_tag {T : Type} [Fintype T] [DecidableEq T] (ℓ : Loc nD τ sig) (q : PosShare TreeShare) (f : Buf (Elt F) ℓ) (tag : Idx ℓ → T) :
    (ℓ ↦{q} f : sProp 𝕄) = bigSep Finset.univ fun t => ℓ ↦[Finset.univ.filter fun i => tag i = t]{q} f := by
  rw [← pointsTo_biUnion Finset.univ (fun t => Finset.univ.filter fun i => tag i = t)]
  · congr 1; ext i; simp
  · intro t _ t' _ hne
    rw [Finset.disjoint_left]
    intro i hi hi'
    exact hne ((Finset.mem_filter.mp hi).2.symm.trans (Finset.mem_filter.mp hi').2)

set_option backward.proofsInPublic true in
/-- Which travelling chunk a row is in. -/
def tagS (i : S2048x1024.Idx) : Fin 16 := ⟨(i 0).val / 128 % 16, Nat.mod_lt _ (by decide)⟩

set_option backward.proofsInPublic true in
/-- Which local chunk a row is in. -/
def tagL (i : S4096x1024.Idx) : Fin 4 := ⟨(i 0).val / 1024 % 4, Nat.mod_lt _ (by decide)⟩

set_option backward.proofsInPublic true in
/-- Which chunk an element of the argument is in, or none. -/
def tagX (c : Dev nD) (i : S4096x2048.Idx) : Fin 16 ⊕ Fin 4 ⊕ Unit :=
  if (i 1).val / 1024 = c.val / 2 then .inr (.inl ⟨(i 0).val / 1024 % 4, Nat.mod_lt _ (by decide)⟩)
  else if (i 0).val / 2048 = c.val % 2 then .inl ⟨(i 0).val % 2048 / 128 % 16, Nat.mod_lt _ (by decide)⟩
  else .inr (.inr ())

set_option backward.proofsInPublic true in
/-- Which chunk a row of the result is in: from the first hop, from the second, or local. -/
def tagO (c : Dev nD) (i : S8192x1024.Idx) : Fin 16 ⊕ Fin 16 ⊕ Fin 4 :=
  if (i 0).val / 4096 = c.val / 2 then .inr (.inr ⟨(i 0).val % 4096 / 1024 % 4, Nat.mod_lt _ (by decide)⟩)
  else if (i 0).val % 4096 / 2048 = c.val % 2 then .inl ⟨(i 0).val % 2048 / 128 % 16, Nat.mod_lt _ (by decide)⟩
  else .inr (.inl ⟨(i 0).val % 2048 / 128 % 16, Nat.mod_lt _ (by decide)⟩)

/-- Membership in a rectangle of two axes. -/
theorem mem_unit2 {d : Fin 2 → ℕ} {off size : Fin 2 → ℕ} {inb} (i : (⟨2, d⟩ : Shape).Idx) :
    i ∈ (Rect.unit (s := ⟨2, d⟩) off size inb).set
      ↔ (off 0 ≤ (i 0).val ∧ (i 0).val < off 0 + size 0) ∧ (off 1 ≤ (i 1).val ∧ (i 1).val < off 1 + size 1) := by
  rw [Rect.mem_set_unit]; exact Fin.forall_fin_two

theorem set_rS (k : Fin 16) : (rS k).set = Finset.univ.filter fun i => tagS i = k := by
  ext i
  rw [mem_unit2, Finset.mem_filter]
  have h0 : (i 0).val < 2048 := (i 0).isLt
  have h1 : (i 1).val < 1024 := (i 1).isLt
  have hk := k.isLt
  simp only [Finset.mem_univ, true_and, tagS, Fin.ext_iff]
  show (128 * k.val ≤ _ ∧ _ < 128 * k.val + 128) ∧ (0 ≤ _ ∧ _ < 0 + 1024) ↔ _
  omega

theorem set_rL (j : Fin 4) : (rL j).set = Finset.univ.filter fun i => tagL i = j := by
  ext i
  rw [mem_unit2, Finset.mem_filter]
  have h0 : (i 0).val < 4096 := (i 0).isLt
  have h1 : (i 1).val < 1024 := (i 1).isLt
  have hk := j.isLt
  simp only [Finset.mem_univ, true_and, tagL, Fin.ext_iff]
  show (1024 * j.val ≤ _ ∧ _ < 1024 * j.val + 1024) ∧ (0 ≤ _ ∧ _ < 0 + 1024) ↔ _
  omega

theorem set_rXS (c : Dev nD) (k : Fin 16) : (rXS c k).set = Finset.univ.filter fun i => tagX c i = .inl k := by
  ext i
  rw [mem_unit2, Finset.mem_filter]
  have h0 : (i 0).val < 4096 := (i 0).isLt
  have h1 : (i 1).val < 2048 := (i 1).isLt
  have hk := k.isLt
  have hc := dev_lt c
  rw [k0_off1_eq]
  show (2048 * (c.val % 2) + 128 * k.val ≤ _ ∧ _ < 2048 * (c.val % 2) + 128 * k.val + 128) ∧ (1024 - 1024 * (c.val / 2) ≤ _ ∧ _ < 1024 - 1024 * (c.val / 2) + 1024) ↔ _
  unfold tagX
  split_ifs <;> simp only [Finset.mem_univ, true_and, Fin.ext_iff, reduceCtorEq, iff_false, Sum.inl.injEq] <;> omega

theorem set_rXL (c : Dev nD) (j : Fin 4) : (rXL c j).set = Finset.univ.filter fun i => tagX c i = .inr (.inl j) := by
  ext i
  rw [mem_unit2, Finset.mem_filter]
  have h0 : (i 0).val < 4096 := (i 0).isLt
  have h1 : (i 1).val < 2048 := (i 1).isLt
  have hk := j.isLt
  have hc := dev_lt c
  rw [offXL_eq]
  show (1024 * j.val ≤ _ ∧ _ < 1024 * j.val + 1024) ∧ (1024 * (c.val / 2) ≤ _ ∧ _ < 1024 * (c.val / 2) + 1024) ↔ _
  unfold tagX
  split_ifs <;> simp only [Finset.mem_univ, true_and, Fin.ext_iff, reduceCtorEq, iff_false, Sum.inl.injEq, Sum.inr.injEq] <;> omega

theorem set_rO6 (c : Dev nD) (k : Fin 16) : (rO6 c k).set = Finset.univ.filter fun i => tagO c i = .inl k := by
  ext i
  rw [mem_unit2, Finset.mem_filter]
  have h0 : (i 0).val < 8192 := (i 0).isLt
  have h1 : (i 1).val < 1024 := (i 1).isLt
  have hk := k.isLt
  have hc := dev_lt c
  rw [k0_off6_eq]
  show ((2048 * (c.val % 2) + 128 * k.val + 4096) - 4096 * (c.val / 2) ≤ _ ∧ _ < (2048 * (c.val % 2) + 128 * k.val + 4096) - 4096 * (c.val / 2) + 128) ∧ (0 ≤ _ ∧ _ < 0 + 1024) ↔ _
  unfold tagO
  split_ifs <;> simp only [Finset.mem_univ, true_and, Fin.ext_iff, reduceCtorEq, iff_false, Sum.inl.injEq, Sum.inr.injEq] <;> omega

theorem set_rO8 (c : Dev nD) (k : Fin 16) : (rO8 c k).set = Finset.univ.filter fun i => tagO c i = .inr (.inl k) := by
  ext i
  rw [mem_unit2, Finset.mem_filter]
  have h0 : (i 0).val < 8192 := (i 0).isLt
  have h1 : (i 1).val < 1024 := (i 1).isLt
  have hk := k.isLt
  have hc := dev_lt c
  rw [k0_off8_eq]
  show ((128 * k.val + 6144) - (4096 * (c.val / 2) + 2048 * (c.val % 2)) ≤ _ ∧ _ < (128 * k.val + 6144) - (4096 * (c.val / 2) + 2048 * (c.val % 2)) + 128) ∧ (0 ≤ _ ∧ _ < 0 + 1024) ↔ _
  unfold tagO
  split_ifs <;> simp only [Finset.mem_univ, true_and, Fin.ext_iff, reduceCtorEq, iff_false, Sum.inl.injEq, Sum.inr.injEq] <;> omega

theorem set_rO7 (c : Dev nD) (j : Fin 4) : (rO7 c j).set = Finset.univ.filter fun i => tagO c i = .inr (.inr j) := by
  ext i
  rw [mem_unit2, Finset.mem_filter]
  have h0 : (i 0).val < 8192 := (i 0).isLt
  have h1 : (i 1).val < 1024 := (i 1).isLt
  have hk := j.isLt
  have hc := dev_lt c
  rw [k0_off7_eq]
  show (4096 * (c.val / 2) + 1024 * j.val ≤ _ ∧ _ < 4096 * (c.val / 2) + 1024 * j.val + 1024) ∧ (0 ≤ _ ∧ _ < 0 + 1024) ↔ _
  unfold tagO
  split_ifs <;> simp only [Finset.mem_univ, true_and, Fin.ext_iff, reduceCtorEq, iff_false, Sum.inl.injEq, Sum.inr.injEq] <;> omega

/-- The rows the second hop fills here are the rows the neighbour's program names. -/
theorem set_o8 (c : Dev nD) (k : Fin 16) : (o6 (devY c) k).view.set = (o8 c k).view.set := by
  rw [View.set_slice_whole, View.set_slice_whole]
  ext i
  rw [mem_unit2, mem_unit2, k0_off6_eq, k0_off8_eq]
  have hc := dev_lt c
  have hY := devY_val c
  show ((2048 * ((devY c).val % 2) + 128 * k.val + 4096) - 4096 * ((devY c).val / 2) ≤ _ ∧ _ < (2048 * ((devY c).val % 2) + 128 * k.val + 4096) - 4096 * ((devY c).val / 2) + 128) ∧ (0 ≤ _ ∧ _ < 0 + 1024)
    ↔ ((128 * k.val + 6144) - (4096 * (c.val / 2) + 2048 * (c.val % 2)) ≤ _ ∧ _ < (128 * k.val + 6144) - (4096 * (c.val / 2) + 2048 * (c.val % 2)) + 128) ∧ (0 ≤ _ ∧ _ < 0 + 1024)
  generalize (devY c).val = y at hY
  subst hY
  omega

/-- The part of the argument the device does not read. -/
def restX (c : Dev nD) (f : Buf (Elt F) ((c : Thread nD τ).loc main_arg0)) : sProp 𝕄 :=
  (c : Thread nD τ).loc main_arg0 ↦[Finset.univ.filter fun i => tagX c i = .inr (.inr ())]{fullShare} f

theorem split_X (c : Dev nD) (f : Buf (Elt F) ((c : Thread nD τ).loc main_arg0)) :
    ((c : Thread nD τ).loc main_arg0 ↦{fullShare} f : sProp 𝕄)
      = iprop((bigSep Finset.univ fun k : Fin 16 => held c (xS c k) fullShare f) ∗ (bigSep Finset.univ fun j : Fin 4 => held c (xL c j) fullShare f) ∗ restX c f) := by
  rw [by_tag _ _ _ (tagX c), bigSep_univ_sum, bigSep_univ_sum]
  refine congrArg₂ _ (bigSep_congr fun k _ => ?_) (congrArg₂ _ (bigSep_congr fun j _ => ?_) ?_)
  · unfold held; rw [View.set_slice_whole, set_rXS]; rfl
  · unfold held; rw [View.set_slice_whole, set_rXL]; rfl
  · exact bigSep_singleton

theorem split_O (c : Dev nD) (f : Buf (Elt F) ((c : Thread nD τ).loc main_v1)) :
    ((c : Thread nD τ).loc main_v1 ↦{fullShare} f : sProp 𝕄)
      = iprop((bigSep Finset.univ fun k : Fin 16 => held c (o6 c k) fullShare f) ∗ (bigSep Finset.univ fun k : Fin 16 => held c (o8 c k) fullShare f)
          ∗ (bigSep Finset.univ fun j : Fin 4 => held c (o7 c j) fullShare f)) := by
  rw [by_tag _ _ _ (tagO c), bigSep_univ_sum, bigSep_univ_sum]
  refine congrArg₂ _ (bigSep_congr fun k _ => ?_) (congrArg₂ _ (bigSep_congr fun k _ => ?_) (bigSep_congr fun j _ => ?_))
  · unfold held; rw [View.set_slice_whole, set_rO6]; rfl
  · unfold held; rw [View.set_slice_whole, set_rO8]; rfl
  · unfold held; rw [View.set_slice_whole, set_rO7]; rfl

theorem split_XS (c : Dev nD) (f : Buf (Elt F) ((c : Thread nD τ).loc cc0_scratch0)) :
    ((c : Thread nD τ).loc cc0_scratch0 ↦{fullShare} f : sProp 𝕄) = bigSep Finset.univ fun k : Fin 16 => held c (xs k) fullShare f := by
  rw [by_tag _ _ _ tagS]; refine bigSep_congr fun k _ => ?_; unfold held; rw [View.set_slice_whole, set_rS]; rfl
theorem split_SB (c : Dev nD) (f : Buf (Elt F) ((c : Thread nD τ).loc cc0_scratch1)) :
    ((c : Thread nD τ).loc cc0_scratch1 ↦{fullShare} f : sProp 𝕄) = bigSep Finset.univ fun k : Fin 16 => held c (sb k) fullShare f := by
  rw [by_tag _ _ _ tagS]; refine bigSep_congr fun k _ => ?_; unfold held; rw [View.set_slice_whole, set_rS]; rfl
theorem split_RB (c : Dev nD) (f : Buf (Elt F) ((c : Thread nD τ).loc cc0_scratch2)) :
    ((c : Thread nD τ).loc cc0_scratch2 ↦{fullShare} f : sProp 𝕄) = bigSep Finset.univ fun k : Fin 16 => held c (rb k) fullShare f := by
  rw [by_tag _ _ _ tagS]; refine bigSep_congr fun k _ => ?_; unfold held; rw [View.set_slice_whole, set_rS]; rfl
theorem split_XL (c : Dev nD) (f : Buf (Elt F) ((c : Thread nD τ).loc cc0_scratch3)) :
    ((c : Thread nD τ).loc cc0_scratch3 ↦{fullShare} f : sProp 𝕄) = bigSep Finset.univ fun j : Fin 4 => held c (xl j) fullShare f := by
  rw [by_tag _ _ _ tagL]; refine bigSep_congr fun j _ => ?_; unfold held; rw [View.set_slice_whole, set_rL]; rfl
theorem split_LB (c : Dev nD) (f : Buf (Elt F) ((c : Thread nD τ).loc cc0_scratch4)) :
    ((c : Thread nD τ).loc cc0_scratch4 ↦{fullShare} f : sProp 𝕄) = bigSep Finset.univ fun j : Fin 4 => held c (lb j) fullShare f := by
  rw [by_tag _ _ _ tagL]; refine bigSep_congr fun j _ => ?_; unfold held; rw [View.set_slice_whole, set_rL]; rfl

omit [FloatOps F] in
/-- Half of a chunk for each of its two readers. -/
theorem halves (c : Dev nD) (k : Fin 16) (f : Buf (Elt F) ((c : Thread nD τ).loc cc0_scratch2)) :
    (held c (rb k) fullShare f : sProp 𝕄) ⊣⊢ iprop(held c (rb k) fullShare.left f ∗ held c (rb k) fullShare.right f) :=
  pointsTo_share (PosShare.mem_left_op_right _)

end Cert.Gather

end
-- ==== Proof.Protocol.lean ====
/-
  The protocol: which semaphore plays which part, what each transfer and each barrier signal hands over, and what a
  device owes at launch.
-/
module

public import proofs.«01_k».proof.Proof.Contents

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The parts a transfer's semaphore plays -/

/-- A travelling chunk: fetched, written out, sent and landed on each of the two hops. -/
inductive Far where
  | fetch | out | sent1 | got1 | sent2 | got2
deriving DecidableEq

instance : Fintype Far := ⟨{.fetch, .out, .sent1, .got1, .sent2, .got2}, fun f => by cases f <;> decide⟩

/-- A local chunk: fetched, written out. -/
inductive Near where
  | fetch | out
deriving DecidableEq

instance : Fintype Near := ⟨{.fetch, .out}, fun g => by cases g <;> decide⟩

abbrev Role : Type := (Far × Fin 16) ⊕ (Near × Fin 4)

abbrev far (f : Far) (k : Fin 16) : Role := .inl (f, k)
abbrev near (g : Near) (j : Fin 4) : Role := .inr (g, j)

def farSems : Far → DmaSems sig S16
  | .fetch => cc0_scratch5
  | .out => cc0_scratch7
  | .sent1 => cc0_scratch9
  | .got1 => cc0_scratch10
  | .sent2 => cc0_scratch11
  | .got2 => cc0_scratch12

def nearSems : Near → DmaSems sig S4
  | .fetch => cc0_scratch6
  | .out => cc0_scratch8

/-- The semaphore of a part. -/
def semOf : Role → DmaSem sig
  | .inl (f, k) => at16 (farSems f) k
  | .inr (g, j) => at4 (nearSems g) j

set_option backward.proofsInPublic true in
/-- The part of a semaphore. -/
def role (q : DmaSem sig) : Role :=
  if q.val < 16 then far .fetch ⟨q.val % 16, Nat.mod_lt _ (by decide)⟩
  else if q.val < 20 then near .fetch ⟨q.val % 4, Nat.mod_lt _ (by decide)⟩
  else if q.val < 36 then far .out ⟨(q.val - 20) % 16, Nat.mod_lt _ (by decide)⟩
  else if q.val < 40 then near .out ⟨q.val % 4, Nat.mod_lt _ (by decide)⟩
  else if q.val < 56 then far .sent1 ⟨(q.val - 40) % 16, Nat.mod_lt _ (by decide)⟩
  else if q.val < 72 then far .got1 ⟨(q.val - 40) % 16, Nat.mod_lt _ (by decide)⟩
  else if q.val < 88 then far .sent2 ⟨(q.val - 40) % 16, Nat.mod_lt _ (by decide)⟩
  else far .got2 ⟨(q.val - 40) % 16, Nat.mod_lt _ (by decide)⟩

set_option maxRecDepth 100000 in
theorem role_semOf : ∀ r : Role, role (semOf r) = r := by decide

theorem semOf_inj : Function.Injective semOf := fun r r' h => by rw [← role_semOf r, h, role_semOf]

/-- A transfer's cell. -/
abbrev cell (c : Dev nD) (r : Role) : GSem nD τ sig := ((c : Thread nD τ), .dma (semOf r))
/-- A barrier's cell. -/
abbrev barCell (c : Dev nD) : GSem nD τ sig := ((c : Thread nD τ), .reg barSem)

/-- What a transfer is worth. -/
def amt : Role → ℕ
  | .inl (.fetch, _) => (xs 0).view.dmaCredit
  | .inl (_, _) => (rb 0).view.dmaCredit
  | .inr (.fetch, _) => (xl 0).view.dmaCredit
  | .inr (.out, _) => (lb 0).view.dmaCredit

theorem amt_pos (r : Role) : 0 < amt r := by
  rcases r with ⟨f, k⟩ | ⟨g, j⟩
  · cases f <;> exact View.dmaCredit_pos _ (by decide)
  · cases g <;> exact View.dmaCredit_pos _ (by decide)

/-! ## What a signal and a transfer hand over -/

/-- Signals to `c`'s barrier: the neighbour along the first axis hands its landing chunks (`false`), the one along the
    second the rows of its result that `c` will fill (`true`). -/
def barPay (c : Dev nD) (d : Bool) : sProp 𝕄 :=
  if d then bigSep Finset.univ fun k : Fin 16 => iprop(∃ f, held (devY c) (o6 c k) fullShare f)
  else bigSep Finset.univ fun k : Fin 16 => iprop(∃ f, held (devX c) (rb k) fullShare f)

/-- What the transfer of a part leaves on device `c`. -/
def pay (c : Dev nD) : Role → sProp 𝕄
  | .inl (.fetch, k) => iprop(held c (xs k) fullShare (CXS m c) ∗ held c (xS c k) fullShare (CX m c))
  | .inl (.out, k) => iprop(held c (o6 c k) fullShare (CO m c) ∗ held c (rb k) fullShare.right (CRB m c))
  | .inl (.sent1, k) => held c (sb k) fullShare (CSB m c)
  | .inl (.got1, k) => held c (rb k) fullShare (CRB m c)
  | .inl (.sent2, k) => held c (rb k) fullShare.left (CRB m c)
  | .inl (.got2, k) => held c (o6 (devY c) k) fullShare (CO m c)
  | .inr (.fetch, j) => iprop(held c (xl j) fullShare (CXL m c) ∗ held c (xL c j) fullShare (CX m c))
  | .inr (.out, j) => iprop(held c (o7 c j) fullShare (CO m c) ∗ held c (lb j) fullShare (CLB m c))

/-- The payload of a cell's duty. -/
def payOf (g : GSem nD τ sig) (d : Bool) : sProp 𝕄 :=
  match g.2 with
  | .reg _ => barPay g.1.1 d
  | .dma q => pay m g.1.1 (role q)

/-- The amount of a cell's duty. -/
def amtOf (g : GSem nD τ sig) : ℕ :=
  match g.2 with
  | .reg _ => 1
  | .dma q => amt (role q)

/-- The duties of a cell's only round. -/
def dutiesOf (g : GSem nD τ sig) : Finset Bool :=
  match g.2 with
  | .reg _ => Finset.univ
  | .dma _ => {false}

/-- One round: a barrier is signalled once by each neighbour, every other cell is paid by one transfer. -/
def sched : Rounds.Schedule (GSem nD τ sig) Bool 𝕄 where
  duties g r := if r = 0 ∧ g.1.2 = .tc then dutiesOf g else ∅
  unitless _ := False
  amount g _ _ := amtOf g
  payload g _ d := payOf m g d
  amount_pos g _ _ _ := by
    rcases g with ⟨t, _ | q⟩
    · exact Nat.one_pos
    · exact amt_pos (role q)

instance barPay_storable (c : Dev nD) (d : Bool) : BI.Storable (upEmb : UEmb _ 𝕄) (barPay (F := F) c d) := by
  unfold barPay held; split <;> infer_instance

instance pay_storable (c : Dev nD) : ∀ r : Role, BI.Storable (upEmb : UEmb _ 𝕄) (pay m c r)
  | .inl (.fetch, k) => by unfold pay held; infer_instance
  | .inl (.out, k) => by unfold pay held; infer_instance
  | .inl (.sent1, k) => by unfold pay held; infer_instance
  | .inl (.got1, k) => by unfold pay held; infer_instance
  | .inl (.sent2, k) => by unfold pay held; infer_instance
  | .inl (.got2, k) => by unfold pay held; infer_instance
  | .inr (.fetch, j) => by unfold pay held; infer_instance
  | .inr (.out, j) => by unfold pay held; infer_instance

instance sched_storable (g : GSem nD τ sig) (r : ℕ) (d : Bool) : BI.Storable (upEmb : UEmb _ 𝕄) ((sched (F := F) m).payload g r d) := by
  rcases g with ⟨t, _ | q⟩
  · exact barPay_storable t.1 d
  · exact pay_storable m t.1 (role q)

theorem duties_bar (c : Dev nD) : (sched (F := F) m).duties (barCell c) 0 = Finset.univ := by dsimp only [sched]; exact if_pos ⟨rfl, rfl⟩
theorem duties_cell (c : Dev nD) (r : Role) : (sched (F := F) m).duties (cell c r) 0 = {false} := by dsimp only [sched]; exact if_pos ⟨rfl, rfl⟩
theorem duties_later (g : GSem nD τ sig) : ∀ r, 1 ≤ r → (sched (F := F) m).duties g r = ∅ :=
  fun r hr => by dsimp only [sched]; exact if_neg fun h => by omega

theorem amount_bar (c : Dev nD) (d : Bool) : (sched (F := F) m).amount (barCell c) 0 d = 1 := rfl
theorem amount_cell (c : Dev nD) (r : Role) (d : Bool) : (sched (F := F) m).amount (cell c r) 0 d = amt r := congrArg amt (role_semOf r)

theorem expect_bar (c : Dev nD) : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_cell (c : Dev nD) (r : Role) : (sched (F := F) m).expect (cell c r) 0 = amt r := by
  unfold Schedule.expect Schedule.amountOf; rw [duties_cell, Finset.sum_singleton, amount_cell]

theorem payload_bar (c : Dev nD) (d : Bool) : (sched (F := F) m).payload (barCell c) 0 d = barPay c d := rfl
theorem payload_cell (c : Dev nD) (r : Role) (d : Bool) : (sched (F := F) m).payload (cell c r) 0 d = pay m c r := congrArg (pay m c) (role_semOf r)

theorem rest_bar (c : Dev nD) :
    bigSep ((sched (F := F) m).duties (barCell c) 0 \ ∅) (fun d => (sched (F := F) m).payload (barCell c) 0 d) = iprop(barPay c false ∗ barPay c true) := by
  rw [Finset.sdiff_empty, duties_bar, bigSep_univ_eq_bigSepL [false, true] (by decide) (by decide), bigSepL_cons_cons, bigSepL_singleton]
  rfl
theorem rest_cell (c : Dev nD) (r : Role) :
    bigSep ((sched (F := F) m).duties (cell c r) 0 \ ∅) (fun d => (sched (F := F) m).payload (cell c r) 0 d) = pay m c r := by
  rw [Finset.sdiff_empty, duties_cell, bigSep_singleton, payload_cell]

/-! ## What is owed, and the levels -/

/-- The sum of what the listed cells are owed, the first entry outermost. -/
def due : List (Dev nD × Role) → CellTallies nD τ sig Unit
  | [] => 0
  | p :: l => due l + tallyAt (cell p.1 p.2) () (amt p.2)

/-- The chunks still to send along the first axis, as the neighbour's cells. -/
abbrev toX (c : Dev nD) (l : List (Fin 16)) : List (Dev nD × Role) := l.map fun k => (devX c, far .got1 k)
/-- The chunks still to send along the second axis, as the neighbour's cells. -/
abbrev toY (c : Dev nD) (l : List (Fin 16)) : List (Dev nD × Role) := l.map fun k => (devY c, far .got2 k)

def O₂ (c : Dev nD) : CellTallies nD τ sig Unit := due (toX c ks ++ toY c ks)
def O₁ (c : Dev nD) : CellTallies nD τ sig Unit := O₂ c + tallyAt (barCell (devY c)) () 1
/-- What device `c` owes at launch. -/
def O₀ (c : Dev nD) : CellTallies nD τ sig Unit := O₁ c + tallyAt (barCell (devX c)) () 1

theorem tally_pos {O : CellTallies nD τ sig Unit} {g₀ g : GSem nD τ sig} {n : ℕ} {u : Unit} (h : 0 < (O + tallyAt g₀ () n) g u) :
    g = g₀ ∨ 0 < O g u := by
  rw [Pi.add_apply, Finsupp.add_apply, tallyAt_apply] at h
  by_cases hg : g = g₀
  · exact .inl hg
  · rw [if_neg fun h' => hg h'.1, Nat.add_zero] at h; exact .inr h

theorem due_pos (l : List (Dev nD × Role)) {g : GSem nD τ sig} {u : Unit} (h : 0 < due l g u) : ∃ p ∈ l, g = cell p.1 p.2 := by
  induction l with
  | nil => exact absurd h (Nat.lt_irrefl 0)
  | cons p l ih =>
    unfold due at h
    rcases tally_pos h with hg | h
    · exact ⟨p, List.mem_cons_self, hg⟩
    · obtain ⟨p', hp', e⟩ := ih h
      exact ⟨p', List.mem_cons_of_mem _ hp', e⟩

def L (g : GSem nD τ sig) : Finset Unit := if g.1.2 = .tc then {()} else ∅

/-- A part's level: the first hop's landing above the barrier, the second's above that. -/
def lvR : Role → ℕ
  | .inl (.got1, _) => 2
  | .inl (.got2, _) => 3
  | _ => 0

def lv (g : GSem nD τ sig) (_ : Unit) : ℕ :=
  match g.2 with
  | .reg _ => 1
  | .dma q => lvR (role q)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (r : Role) (u : Unit) : lv (cell c r) u = lvR r := congrArg lvR (role_semOf r)

/-- A wait is safe when everything still owed lies above it. -/
theorem mayWait (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => le_of_eq (by rw [Finset.mem_singleton.mp hp]))
    (fun g u hg => (h g u hg).2)

theorem mayWait_due (c : Dev nD) (sm : SemLoc sig) (l : List (Dev nD × Role))
    (h : ∀ p ∈ l, lv ((c : Thread nD τ), sm) () < lvR p.2) :
    (levAts L lv : sProp 𝕄) ⊢ MayWait (c : Thread nD τ) sm () (due l) :=
  mayWait c sm (due l) fun g u hg => by
    obtain ⟨p, hp, rfl⟩ := due_pos l hg
    exact ⟨rfl, by rw [lv_cell]; exact h p hp⟩

theorem O₂_pos {c : Dev nD} {g : GSem nD τ sig} {u : Unit} (h : 0 < O₂ c g u) : g.1.2 = .tc ∧ 1 < lv g u := by
  obtain ⟨p, hp, rfl⟩ := due_pos _ h
  refine ⟨rfl, ?_⟩
  rw [lv_cell]
  rcases List.mem_append.mp hp with hp | hp <;> obtain ⟨k, -, rfl⟩ := List.mem_map.mp hp
  · exact Nat.lt_succ_self 1
  · exact Nat.lt_of_succ_lt (Nat.lt_succ_self 2)

theorem O₀_pos {c : Dev nD} {g : GSem nD τ sig} {u : Unit} (h : 0 < O₀ c g u) : g.1.2 = .tc ∧ 0 < lv g u := by
  rcases tally_pos h with rfl | h
  · exact ⟨rfl, Nat.one_pos⟩
  rcases tally_pos h with rfl | h
  · exact ⟨rfl, Nat.one_pos⟩
  exact ⟨(O₂_pos h).1, Nat.lt_of_succ_lt (O₂_pos h).2⟩

/-! ## The state a device carries -/

/-- Every cell: the barriers and the transfers'. -/
abbrev Part : Type := Unit ⊕ Role

def locOf : Part → SemLoc sig
  | .inl _ => .reg barSem
  | .inr r => .dma (semOf r)

abbrev kcell (ck : Dev nD × Part) : GSem nD τ sig := ((ck.1 : Thread nD τ), locOf ck.2)

/-- Every cell's invariant, under the names `K`, and that it has reached its round. -/
def records (K : Dev nD × Part → ℕ) : sProp 𝕄 :=
  bigSep Finset.univ fun ck : Dev nD × Part => iprop(cellInv ER (sched m) (K ck) (kcell ck) ∗ reached ER (kcell ck) 0)

instance records_persistent (K : Dev nD × Part → ℕ) : BI.Persistent (records m K) := by unfold records; infer_instance

/-- What every step may use. -/
def base (K : Dev nD × Part → ℕ) : sProp 𝕄 := iprop(records m K ∗ levAts L lv)

instance base_persistent (K : Dev nD × Part → ℕ) : BI.Persistent (base m K) := by unfold base; infer_instance

theorem base_at (K : Dev nD × Part → ℕ) (ck : Dev nD × Part) :
    base m K ⊢ iprop(cellInv ER (sched m) (K ck) (kcell ck) ∗ reached ER (kcell ck) 0) := by
  unfold base records
  exact sep_elim_left.trans (bigSep_elim (Finset.mem_univ ck))

theorem base_cell (K : Dev nD × Part → ℕ) (c : Dev nD) (r : Role) :
    base m K ⊢ iprop(cellInv ER (sched m) (K (c, .inr r)) (cell c r) ∗ reached ER (cell c r) 0) := base_at m K (c, .inr r)

theorem base_bar (K : Dev nD × Part → ℕ) (c : Dev nD) :
    base m K ⊢ iprop(cellInv ER (sched m) (K (c, .inl ())) (barCell c) ∗ reached ER (barCell c) 0) := base_at m K (c, .inl ())

theorem base_lev (K : Dev nD × Part → ℕ) : base m K ⊢ (levAts L lv : sProp 𝕄) := sep_elim_right

/-- The device has not waited on the cell yet. -/
abbrev want (c : Dev nD) (r : Role) : sProp 𝕄 := atPos ER (cell c r) 0 ∅ 0
/-- The device has waited on the cell. -/
abbrev done (c : Dev nD) (r : Role) : sProp 𝕄 := atPos ER (cell c r) (0 + 1) ∅ 0
/-- The right to wait on the cell. -/
abbrev tick (c : Dev nD) (r : Role) : sProp 𝕄 := cred (tallyAt (cell c r) () (amt r))
/-- The right to pay the cell. -/
abbrev tok (c : Dev nD) (r : Role) : sProp 𝕄 := dutyTok ER (cell c r) 0 false
/-- What the device still owes, whatever it has waited on. -/
def debt (c : Dev nD) (O : CellTallies nD τ sig Unit) : sProp 𝕄 := iprop(∃ W, owes (c : Thread nD τ) O W)

end Cert.Gather

end
-- ==== Proof.Steps.lean ====
/-
  One turn of each loop, proved once for every device and every chunk, and the rule that runs a loop over its chunks.
-/
module

public import proofs.«01_k».proof.Proof.Protocol

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Running `p` on device `c` and then meeting `Q`. -/
abbrev run (c : Dev nD) (p : Code F) (Q : PUnit → sProp 𝕄) : sProp 𝕄 :=
  wp frame (wpE (defs₀ (F := F)) 𝒱₀ (c : Thread nD τ) none) Set.univ p Q

/-! ## A loop -/

/-- One proposition for each entry of a list. -/
def sepL {A : Type} (l : List A) (Φ : A → sProp 𝕄) : sProp 𝕄 := l.foldr (fun a P => iprop(Φ a ∗ P)) iprop(emp)

omit [FloatOps F] in
theorem sepL_toFinset {A : Type} [DecidableEq A] (Φ : A → sProp 𝕄) (l : List A) (h : l.Nodup) : bigSep l.toFinset Φ = sepL l Φ := by
  induction l with
  | nil => exact bigSep_empty
  | cons a l ih =>
    rw [List.toFinset_cons]
    refine (bigSep_insert (by simpa using (List.nodup_cons.mp h).1)).trans ?_
    rw [ih (List.nodup_cons.mp h).2]
    rfl

omit [FloatOps F] in
theorem sepL_append {A : Type} (Φ : A → sProp 𝕄) (l l' : List A) : sepL (l ++ l') Φ ⊣⊢ iprop(sepL l Φ ∗ sepL l' Φ) := by
  induction l with
  | nil => exact emp_sep.symm
  | cons a l ih => exact (sep_congr_right ih).trans sep_assoc.symm

/-- A loop whose turn `a` uses `Pre a` and gives `Post a`, carrying `Sh` of what is still to do. -/
theorem loop {A : Type} (c : Dev nD) (R : sProp 𝕄) [BI.Persistent R] (Pre Post : A → sProp 𝕄) (Sh : List A → sProp 𝕄) (step : A → Code F → Code F)
    (h : ∀ a l rest (Q : PUnit → sProp 𝕄), iprop(R ∗ Pre a ∗ Sh (a :: l)) ⊢ iprop(((Post a ∗ Sh l) -∗ run c rest Q) -∗ run c (step a rest) Q))
    (l : List A) (rest : Code F) (Q : PUnit → sProp 𝕄) :
    iprop(R ∗ sepL l Pre ∗ Sh l) ⊢ iprop(((sepL l Post ∗ Sh []) -∗ run c rest Q) -∗ run c (l.foldr step rest) Q) := by
  induction l with
  | nil =>
    show iprop(R ∗ emp ∗ Sh []) ⊢ iprop(((emp ∗ Sh []) -∗ run c rest Q) -∗ run c rest Q)
    iintro ⟨-, H, HS⟩ Hk
    iapply Hk
    isplitl [H] <;> iassumption
  | cons a l ih =>
    show iprop(R ∗ (Pre a ∗ sepL l Pre) ∗ Sh (a :: l)) ⊢ iprop((((Post a ∗ sepL l Post) ∗ Sh []) -∗ run c rest Q) -∗ run c (step a (l.foldr step rest)) Q)
    iintro ⟨#HR, ⟨Ha, Hl⟩, HS⟩ Hk
    iapply (h a l (l.foldr step rest) Q) $$ [Ha HS]
    · isplitr; · iexact HR
      isplitl [Ha] <;> iassumption
    iintro ⟨Hp, HS⟩
    iapply ih $$ [Hl HS]
    · isplitr; · iexact HR
      isplitl [Hl] <;> iassumption
    iintro ⟨Hps, HS⟩
    iapply Hk
    isplitr [HS]
    · isplitl [Hp] <;> iassumption
    · iexact HS

/-! ## One effect -/

/-- Waiting for a part's transfer. -/
theorem wait_part (K : Dev nD × Part → ℕ) (c : Dev nD) (r : Role) (l : List (Dev nD × Role)) (hl : ∀ p ∈ l, lvR r < lvR p.2)
    {sp sp' : Space} {s s' : Shape} {e e' : EltTy} {src : Memref sig .tc sp' s' e'} {dst : Memref sig .tc sp s e} (hN : dst.view.dmaCredit = amt r)
    {hsrc : src.view.WordExact} {hdst : dst.view.WordExact}
    (k : PUnit → Code F) (Q : PUnit → sProp 𝕄) :
    iprop(base m K ∗ want c r ∗ tick c r ∗ debt c (due l))
      ⊢ iprop(((done c r ∗ pay m c r ∗ debt c (due l)) -∗ run c (k ⟨⟩) Q) -∗ run c (.op (.waitDma2 (semOf r) src dst hsrc hdst) k) Q) := by
  unfold debt tick
  rw [← hN]
  iintro ⟨#HB, Hat, Hc, ⟨%W, HO⟩⟩ Hk
  ihave #HI := (base_cell m K c r) $$ HB
  icases HI with ⟨#HI, -⟩
  iapply (Rounds.wp_wait_rest_token 𝒱₀ ER (sched m) (c : Thread nD τ) none (κ := K (c, .inr r))
    (wpE_waitDma2_eq 𝒱₀ (c : Thread nD τ) none Set.univ) (Set.mem_univ _) () (O := due l) (W := W)
    (R := 0) (m := 0) (T := ∅) (by rw [Nat.zero_add, expect_cell, hN])) $$ [Hat Hc HO]
  · isplitr; · iexact HI
    isplitl [Hc]; · iexact Hc
    isplitl [HO]; · iexact HO
    isplitr
    · iapply (mayWait_due c (.dma (semOf r)) l (by intro p hp; rw [lv_cell]; exact hl p hp))
      iapply (base_lev m K); iexact HB
    iexact Hat
  iintro ⟨HO, Hat, -, Hpay⟩
  ihave Hp := (Entails.of_eq (rest_cell m c r)) $$ Hpay
  iapply Hk
  isplitl [Hat]; · iexact Hat
  isplitl [Hp]; · iexact Hp
  iexists _; iexact HO

/-- Starting a part's transfer within the device. -/
theorem copy_part (K : Dev nD × Part → ℕ) (c : Dev nD) (r : Role) {sp sp' : Space} {s : Shape} {e : EltTy}
    {src : Memref sig .tc sp s e} {dst : Memref sig .tc sp' s e} (q : PosShare TreeShare)
    (fs : Buf (Elt F) (src.view.loc (c : Thread nD τ))) (G : Buf (Elt F) (dst.view.loc (c : Thread nD τ)))
    (hN : dst.view.amount (.dma (semOf r)) = amt r) (hG : ∀ i, dst.view.read (Elt F) G i = src.view.read (Elt F) fs i)
    (hpay : pay m c r = iprop(held c dst fullShare G ∗ held c src q fs))
    {hsrc : src.view.WordExact} {hdst : dst.view.WordExact} {hsem : DmaTarget.Typed (nD := nD) (p := (c : Thread nD τ).2) sp (.dma (semOf r)) (.here dst)}
    (k : PUnit → Code F) (Q : PUnit → sProp 𝕄) :
    iprop(base m K ∗ tok c r ∗ held c src q fs ∗ (∃ f, held c dst fullShare f))
      ⊢ iprop((tick c r -∗ run c (k ⟨⟩) Q) -∗ run c (.op (.enqueueDma src (.here dst) (.dma (semOf r)) hsrc hdst hsem) k) Q) := by
  iintro ⟨#HB, Ht, Hs, ⟨%fd, Hd⟩⟩ Hk
  ihave #HI := (base_cell m K c r) $$ HB
  icases HI with ⟨#HI, #HR⟩
  iapply (Rounds.wp_copy_pointsTo 𝒱₀ ER (sched m) (c : Thread nD τ) none (κ := K (c, .inr r)) (d := false) (fd := fd)
    (by rw [duties_cell]; exact Finset.mem_singleton_self _) () (amt r) hN (amount_cell m c r false)
    (by rw [payload_cell, hpay, written c dst.view fd G _ hG])) $$ [Ht Hs Hd]
  · isplitr; · iexact HI
    isplitl [Hs]; · iexact Hs
    isplitl [Hd]; · iexact Hd
    isplitl [Ht]; · iexact Ht
    iexact HR
  iexact Hk

/-- Sending to a neighbour: part `r₁` here, part `r₂` there. -/
theorem send_part (K : Dev nD × Part → ℕ) (c c' : Dev nD) (r₁ r₂ : Role) (l : List (Dev nD × Role)) {sp sp' : Space} {s : Shape} {e : EltTy}
    {src : Memref sig .tc sp s e} {dst : Memref sig .tc sp' s e} (q : PosShare TreeShare)
    (fs : Buf (Elt F) (src.view.loc (c : Thread nD τ))) (G : Buf (Elt F) (dst.view.loc (c' : Thread nD τ)))
    (hN : dst.view.amount (.dma (semOf r₂)) = amt r₂) (ha : amt r₁ = amt r₂) (hG : ∀ i, dst.view.read (Elt F) G i = src.view.read (Elt F) fs i)
    (hpay₁ : pay m c r₁ = held c src q fs) (hpay₂ : pay m c' r₂ = held c' dst fullShare G)
    {hsc : dst.view.ref.isScScratch = false} {hsrc : src.view.WordExact} {hdst : dst.view.WordExact}
    {hsem : DmaTarget.Typed sp (.dma (semOf r₂)) (.remote (Dev.tc c' : Thread nD τ) dst (.dma (semOf r₁)) hsc)}
    (k : PUnit → Code F) (Q : PUnit → sProp 𝕄) :
    iprop(base m K ∗ tok c r₁ ∗ tok c' r₂ ∗ held c src q fs ∗ (∃ f, held c' dst fullShare f) ∗ debt c (due ((c', r₂) :: l)))
      ⊢ iprop(((tick c r₁ ∗ debt c (due l)) -∗ run c (k ⟨⟩) Q)
          -∗ run c (.op (.enqueueDma src (.remote (Dev.tc c' : Thread nD τ) dst (.dma (semOf r₁)) hsc) (.dma (semOf r₂)) hsrc hdst hsem) k) Q) := by
  unfold debt tick
  rw [ha]
  iintro ⟨#HB, Ht, Ht', Hs, ⟨%fd, Hd⟩, ⟨%W, HO⟩⟩ Hk
  ihave #HI := (base_cell m K c r₁) $$ HB
  icases HI with ⟨#HI, #HR⟩
  ihave #HI' := (base_cell m K c' r₂) $$ HB
  icases HI' with ⟨#HI', #HR'⟩
  iapply (Rounds.wp_send_pointsTo 𝒱₀ ER (sched m) (c : Thread nD τ) none (κ₁ := K (c, .inr r₁)) (κ₂ := K (c', .inr r₂))
    (r₁ := 0) (r₂ := 0) (d₁ := false) (d₂ := false) (fd := fd)
    (by rw [duties_cell]; exact Finset.mem_singleton_self _) (by rw [duties_cell]; exact Finset.mem_singleton_self _)
    () () (amt r₂) hN ((amount_cell m c r₁ false).trans ha) (amount_cell m c' r₂ false) (due l) rfl (W := W)
    (by rw [payload_cell, hpay₁]) (by rw [payload_cell, hpay₂, written c' dst.view fd G _ hG])) $$ [Ht Ht' Hs Hd HO]
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists W; iexact HO

end Cert.Gather

end
-- ==== Proof.Turns.lean ====
/-
  What one turn of each loop uses and gives.
-/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Load a chunk of `A`, load and overwrite that of `B` with what `g` makes of it. -/
theorem round_part (c : Dev nD) {s : Shape} {A : Memref sig .tc .vmem s .f32} {B : Memref sig .tc .vmem s .bf16} {r : Rect s}
    (g : (r.shape.Idx → Elt F .f32) → r.shape.Idx → Elt F .bf16)
    (fa : Buf (Elt F) ((A.access r).loc (c : Thread nD τ))) (G : Buf (Elt F) ((B.access r).loc (c : Thread nD τ)))
    (hG : ∀ i, (B.access r).read (Elt F) G i = g ((A.access r).read (Elt F) fa) i)
    {h1 : A.view.LoadsAt r.toLoadRect} {h2 : B.view.LoadsAt r.toLoadRect} {h3 : (B.access r).Stores Finset.univ}
    {h4 : (Finset.univ : Finset r.shape.Idx) = Finset.univ ∨ ∀ a, r.stride a = 1}
    (rest : Code F) (Q : PUnit → sProp 𝕄) :
    iprop(((A.access r).loc (c : Thread nD τ) ↦[(A.access r).set]{fullShare} fa) ∗ (∃ f, (B.access r).loc (c : Thread nD τ) ↦[(B.access r).set]{fullShare} f))
      ⊢ iprop(((((A.access r).loc (c : Thread nD τ) ↦[(A.access r).set]{fullShare} fa) ∗ ((B.access r).loc (c : Thread nD τ) ↦[(B.access r).set]{fullShare} G)) -∗ run c rest Q)
          -∗ run c (.op (.load A r.toLoadRect h1) fun v => .op (.load B r.toLoadRect h2) fun _ => .op (.store B r (g v) Finset.univ h3 h4) fun _ => rest) Q) := by
  iintro ⟨Ha, ⟨%fb, Hb⟩⟩ Hk
  iapply (wp_load_rect 𝒱₀ (c : Thread nD τ) none Set.univ (m := A) (r := r) (Finset.Subset.refl _)) $$ Ha; iintro Ha
  iapply (wp_load_rect 𝒱₀ (c : Thread nD τ) none Set.univ (m := B) (r := r) (Finset.Subset.refl _)) $$ Hb; iintro Hb
  iapply (wp_store 𝒱₀ (c : Thread nD τ) none Set.univ (m := B) (r := r) (Mk := Finset.univ) (S := (B.access r).set) (Finset.Subset.refl _)) $$ Hb; iintro Hb
  ihave Hb := (Entails.of_eq (written c (B.access r) fb G _ hG)) $$ Hb
  iapply Hk
  isplitl [Ha] <;> iassumption

/-! ## Fetching -/

def fetchSPre (c : Dev nD) (k : Fin 16) : sProp 𝕄 :=
  iprop(tok c (far .fetch k) ∗ held c (xS c k) fullShare (CX m c) ∗ (∃ f, held c (xs k) fullShare f))

theorem fetchS_turn (K : Dev nD × Part → ℕ) (c : Dev nD) (S : sProp 𝕄) (k : Fin 16) (l : List (Fin 16)) (rest : Code F) (Q : PUnit → sProp 𝕄) :
    iprop(base m K ∗ fetchSPre m c k ∗ S) ⊢ iprop(((tick c (far .fetch k) ∗ S) -∗ run c rest Q) -∗ run c (fetchS c k rest) Q) := by
  unfold fetchSPre fetchS
  iintro ⟨#HB, Hp, HS⟩ Hk
  iapply (copy_part m K c (far .fetch k) (src := xS c k) (dst := xs k) fullShare (CX m c) (CXS m c) rfl (fetchS_val m c k) rfl) $$ [Hp]
  · isplitr; · iexact HB
    iexact Hp
  iintro Ht
  iapply Hk
  isplitl [Ht] <;> iassumption

def fetchLPre (c : Dev nD) (j : Fin 4) : sProp 𝕄 :=
  iprop(tok c (near .fetch j) ∗ held c (xL c j) fullShare (CX m c) ∗ (∃ f, held c (xl j) fullShare f))

theorem fetchL_turn (K : Dev nD × Part → ℕ) (c : Dev nD) (S : sProp 𝕄) (j : Fin 4) (l : List (Fin 4)) (rest : Code F) (Q : PUnit → sProp 𝕄) :
    iprop(base m K ∗ fetchLPre m c j ∗ S) ⊢ iprop(((tick c (near .fetch j) ∗ S) -∗ run c rest Q) -∗ run c (fetchL c j rest) Q) := by
  unfold fetchLPre fetchL
  iintro ⟨#HB, Hp, HS⟩ Hk
  iapply (copy_part m K c (near .fetch j) (src := xL c j) (dst := xl j) fullShare (CX m c) (CXL m c) rfl (fetchL_val m c j) rfl) $$ [Hp]
  · isplitr; · iexact HB
    iexact Hp
  iintro Ht
  iapply Hk
  isplitl [Ht] <;> iassumption

/-! ## The first hop -/

def hop1Pre (c : Dev nD) (k : Fin 16) : sProp 𝕄 :=
  iprop(want c (far .fetch k) ∗ tick c (far .fetch k) ∗ (∃ f, held c (sb k) fullShare f) ∗ tok c (far .sent1 k) ∗ tok (devX c) (far .got1 k)
    ∗ (∃ f, held (devX c) (rb k) fullShare f))

def hop1Post (c : Dev nD) (k : Fin 16) : sProp 𝕄 :=
  iprop(done c (far .fetch k) ∗ held c (xs k) fullShare (CXS m c) ∗ held c (xS c k) fullShare (CX m c) ∗ tick c (far .sent1 k))

theorem hop1_turn (K : Dev nD × Part → ℕ) (c : Dev nD) (k : Fin 16) (l : List (Fin 16)) (rest : Code F) (Q : PUnit → sProp 𝕄) :
    iprop(base m K ∗ hop1Pre c k ∗ debt c (due (toX c (k :: l) ++ toY c ks)))
      ⊢ iprop(((hop1Post m c k ∗ debt c (due (toX c l ++ toY c ks))) -∗ run c rest Q) -∗ run c (hop1 c k rest) Q) := by
  unfold hop1Pre hop1Post hop1
  iintro ⟨#HB, ⟨Hw, Ht, Hsb, Hk1, Hk2, Hrb⟩, HO⟩ Hk
  iapply (wait_part m K c (far .fetch k) (toX c (k :: l) ++ toY c ks)
    (by
      intro p hp
      rcases List.mem_append.mp hp with hp | hp <;> obtain ⟨k, -, rfl⟩ := List.mem_map.mp hp
      · exact Nat.succ_pos 1
      · exact Nat.succ_pos 2) (src := xS c k) (dst := xs k) rfl) $$ [Hw Ht HO]
  · isplitr; · iexact HB
    isplitl [Hw]; · iexact Hw
    isplitl [Ht] <;> iassumption
  iintro ⟨Hd, Hp, HO⟩
  ihave Hp := (Entails.of_eq (show pay m c (far .fetch k) = iprop(held c (xs k) fullShare (CXS m c) ∗ held c (xS c k) fullShare (CX m c)) from rfl)) $$ Hp
  icases Hp with ⟨Hxs, Hx⟩
  iapply (round_part c (A := aXS) (B := aSB) (r := rS k) k0_pay1 (CXS m c) (CSB m c) (roundS_val m c k)) $$ [Hxs Hsb]
  · isplitl [Hxs] <;> iassumption
  iintro ⟨Hxs, Hsb⟩
  iapply (send_part m K c (devX c) (far .sent1 k) (far .got1 k) (toX c l ++ toY c ks) (src := sb k) (dst := rb k) fullShare (CSB m c) (CRB m (devX c))
    rfl rfl (hop1_val m c k) rfl rfl) $$ [Hk1 Hk2 Hsb Hrb HO]
  · isplitr; · iexact HB
    isplitl [Hk1]; · iexact Hk1
    isplitl [Hk2]; · iexact Hk2
    isplitl [Hsb]; · iexact Hsb
    isplitl [Hrb]; · iexact Hrb
    iexact HO
  iintro ⟨Ht, HO⟩
  iapply Hk
  isplitr [HO]
  · isplitl [Hd]; · iexact Hd
    isplitl [Hxs]; · iexact Hxs
    isplitl [Hx] <;> iassumption
  iexact HO

/-! ## The middle loop: second hops and local chunks -/

def hop2Pre (c : Dev nD) (k : Fin 16) : sProp 𝕄 :=
  iprop(want c (far .got1 k) ∗ tick c (far .got1 k) ∗ tok c (far .sent2 k) ∗ tok (devY c) (far .got2 k) ∗ tok c (far .out k)
    ∗ (∃ f, held (devY c) (o6 c k) fullShare f) ∗ (∃ f, held c (o6 c k) fullShare f))

def hop2Post (c : Dev nD) (k : Fin 16) : sProp 𝕄 :=
  iprop(done c (far .got1 k) ∗ tick c (far .sent2 k) ∗ tick c (far .out k))

theorem hop2_turn (K : Dev nD × Part → ℕ) (c : Dev nD) (k : Fin 16) (l : List (Fin 16)) (rest : Code F) (Q : PUnit → sProp 𝕄) :
    iprop(base m K ∗ hop2Pre c k ∗ debt c (due (toY c (k :: l))))
      ⊢ iprop(((hop2Post c k ∗ debt c (due (toY c l))) -∗ run c rest Q) -∗ run c (hop2 c k rest) Q) := by
  unfold hop2Pre hop2Post hop2
  iintro ⟨#HB, ⟨Hw, Ht, Hk1, Hk2, Hk3, Ho', Ho⟩, HO⟩ Hk
  iapply (wait_part m K c (far .got1 k) (toY c (k :: l))
    (by intro p hp; obtain ⟨k, -, rfl⟩ := List.mem_map.mp hp; exact Nat.lt_succ_self 2) (src := sb k) (dst := rb k) rfl) $$ [Hw Ht HO]
  · isplitr; · iexact HB
    isplitl [Hw]; · iexact Hw
    isplitl [Ht] <;> iassumption
  iintro ⟨Hd, Hp, HO⟩
  ihave Hp := (Entails.of_eq (show pay m c (far .got1 k) = held c (rb k) fullShare (CRB m c) from rfl)) $$ Hp
  ihave Hp := (halves c k (CRB m c)).1 $$ Hp
  icases Hp with ⟨Hl, Hr⟩
  iapply (send_part m K c (devY c) (far .sent2 k) (far .got2 k) (toY c l) (src := rb k) (dst := o6 c k) fullShare.left (CRB m c) (CO m (devY c))
    rfl rfl (hop2_val m c k) rfl (by unfold pay; rw [devY_devY])) $$ [Hk1 Hk2 Hl Ho' HO]
  · isplitr; · iexact HB
    isplitl [Hk1]; · iexact Hk1
    isplitl [Hk2]; · iexact Hk2
    isplitl [Hl]; · iexact Hl
    isplitl [Ho']; · iexact Ho'
    iexact HO
  iintro ⟨Ht1, HO⟩
  iapply (copy_part m K c (far .out k) (src := rb k) (dst := o6 c k) fullShare.right (CRB m c) (CO m c) rfl (out_val m c k) rfl) $$ [Hk3 Hr Ho]
  · isplitr; · iexact HB
    isplitl [Hk3]; · iexact Hk3
    isplitl [Hr] <;> iassumption
  iintro Ht2
  iapply Hk
  isplitr [HO]
  · isplitl [Hd]; · iexact Hd
    isplitl [Ht1] <;> iassumption
  iexact HO

def keepPre (c : Dev nD) (j : Fin 4) : sProp 𝕄 :=
  iprop(want c (near .fetch j) ∗ tick c (near .fetch j) ∗ (∃ f, held c (lb j) fullShare f) ∗ tok c (near .out j) ∗ (∃ f, held c (o7 c j) fullShare f))

def keepPost (c : Dev nD) (j : Fin 4) : sProp 𝕄 :=
  iprop(done c (near .fetch j) ∗ held c (xl j) fullShare (CXL m c) ∗ held c (xL c j) fullShare (CX m c) ∗ tick c (near .out j))

theorem keep_turn (K : Dev nD × Part → ℕ) (c : Dev nD) (j : Fin 4) (l : List (Fin 16)) (rest : Code F) (Q : PUnit → sProp 𝕄) :
    iprop(base m K ∗ keepPre c j ∗ debt c (due (toY c l)))
      ⊢ iprop(((keepPost m c j ∗ debt c (due (toY c l))) -∗ run c rest Q) -∗ run c (keep c j rest) Q) := by
  unfold keepPre keepPost keep
  iintro ⟨#HB, ⟨Hw, Ht, Hlb, Hk1, Ho⟩, HO⟩ Hk
  iapply (wait_part m K c (near .fetch j) (toY c l)
    (by intro p hp; obtain ⟨k, -, rfl⟩ := List.mem_map.mp hp; exact Nat.succ_pos 2) (src := xL c j) (dst := xl j) rfl) $$ [Hw Ht HO]
  · isplitr; · iexact HB
    isplitl [Hw]; · iexact Hw
    isplitl [Ht] <;> iassumption
  iintro ⟨Hd, Hp, HO⟩
  ihave Hp := (Entails.of_eq (show pay m c (near .fetch j) = iprop(held c (xl j) fullShare (CXL m c) ∗ held c (xL c j) fullShare (CX m c)) from rfl)) $$ Hp
  icases Hp with ⟨Hxl, Hx⟩
  iapply (round_part c (A := aXL) (B := aLB) (r := rL j) k0_pay18 (CXL m c) (CLB m c) (roundL_val m c j)) $$ [Hxl Hlb]
  · isplitl [Hxl] <;> iassumption
  iintro ⟨Hxl, Hlb⟩
  iapply (copy_part m K c (near .out j) (src := lb j) (dst := o7 c j) fullShare (CLB m c) (CO m c) rfl (outL_val m c j) rfl) $$ [Hk1 Hlb Ho]
  · isplitr; · iexact HB
    isplitl [Hk1]; · iexact Hk1
    isplitl [Hlb] <;> iassumption
  iintro Ht
  iapply Hk
  isplitr [HO]
  · isplitl [Hd]; · iexact Hd
    isplitl [Hxl]; · iexact Hxl
    isplitl [Hx] <;> iassumption
  iexact HO

def middlePre (c : Dev nD) (j : Fin 4) : sProp 𝕄 := iprop(sepL (four j) (hop2Pre c) ∗ keepPre c j)
def middlePost (c : Dev nD) (j : Fin 4) : sProp 𝕄 := iprop(sepL (four j) (hop2Post c) ∗ keepPost m c j)

theorem middle_turn (K : Dev nD × Part → ℕ) (c : Dev nD) (j : Fin 4) (l : List (Fin 4)) (rest : Code F) (Q : PUnit → sProp 𝕄) :
    iprop(base m K ∗ middlePre c j ∗ debt c (due (toY c ((j :: l).flatMap four))))
      ⊢ iprop(((middlePost m c j ∗ debt c (due (toY c (l.flatMap four)))) -∗ run c rest Q) -∗ run c (middle c j rest) Q) := by
  unfold middlePre middlePost middle
  iintro ⟨#HB, ⟨Hh, Hkp⟩, HO⟩ Hk
  iapply (loop c (base m K) (hop2Pre c) (hop2Post c) (fun l' => debt c (due (toY c (l' ++ l.flatMap four)))) (hop2 c)
    (fun a l' rest Q => hop2_turn m K c a (l' ++ l.flatMap four) rest Q) (four j) (keep c j rest) Q) $$ [Hh HO]
  · isplitr; · iexact HB
    isplitl [Hh]; · iexact Hh
    iexact HO
  iintro ⟨Hh, HO⟩
  iapply (keep_turn m K c j (l.flatMap four) rest Q) $$ [Hkp HO]
  · isplitr; · iexact HB
    isplitl [Hkp]; · iexact Hkp
    iexact HO
  iintro ⟨Hkp, HO⟩
  iapply Hk
  isplitr [HO]
  · isplitl [Hh] <;> iassumption
  iexact HO

/-! ## Waiting for the rest -/

/-- A wait with nothing owed. -/
theorem last_wait (K : Dev nD × Part → ℕ) (c : Dev nD) (r : Role)
    {sp sp' : Space} {s s' : Shape} {e e' : EltTy} {src : Memref sig .tc sp' s' e'} {dst : Memref sig .tc sp s e} (hN : dst.view.dmaCredit = amt r)
    {hsrc : src.view.WordExact} {hdst : dst.view.WordExact} (k : PUnit → Code F) (Q : PUnit → sProp 𝕄) :
    iprop(base m K ∗ (want c r ∗ tick c r) ∗ debt c (due []))
      ⊢ iprop((((done c r ∗ pay m c r) ∗ debt c (due [])) -∗ run c (k ⟨⟩) Q) -∗ run c (.op (.waitDma2 (semOf r) src dst hsrc hdst) k) Q) := by
  iintro ⟨#HB, ⟨Hw, Ht⟩, HO⟩ Hk
  iapply (wait_part m K c r [] (by intro p hp; cases hp) hN) $$ [Hw Ht HO]
  · isplitr; · iexact HB
    isplitl [Hw]; · iexact Hw
    isplitl [Ht] <;> iassumption
  iintro ⟨Hd, Hp, HO⟩
  iapply Hk
  isplitr [HO]
  · isplitl [Hd] <;> iassumption
  iexact HO

/-- What a wait uses. -/
abbrev open_ (c : Dev nD) (r : Role) : sProp 𝕄 := iprop(want c r ∗ tick c r)
/-- What a wait gives. -/
abbrev shut (c : Dev nD) (r : Role) : sProp 𝕄 := iprop(done c r ∗ pay m c r)

theorem landed_turn (K : Dev nD × Part → ℕ) (c : Dev nD) (k : Fin 16) (l : List (Fin 16)) (rest : Code F) (Q : PUnit → sProp 𝕄) :
    iprop(base m K ∗ open_ c (far .got2 k) ∗ debt c (due []))
      ⊢ iprop(((shut m c (far .got2 k) ∗ debt c (due [])) -∗ run c rest Q) -∗ run c (landed c k rest) Q) :=
  last_wait m K c (far .got2 k) (src := rb k) (dst := o8 c k) rfl (fun _ => rest) Q

theorem kept_turn (K : Dev nD × Part → ℕ) (c : Dev nD) (j : Fin 4) (l : List (Fin 4)) (rest : Code F) (Q : PUnit → sProp 𝕄) :
    iprop(base m K ∗ open_ c (near .out j) ∗ debt c (due []))
      ⊢ iprop(((shut m c (near .out j) ∗ debt c (due [])) -∗ run c rest Q) -∗ run c (kept c j rest) Q) :=
  last_wait m K c (near .out j) (src := lb j) (dst := o7 c j) rfl (fun _ => rest) Q

theorem drained_turn (K : Dev nD × Part → ℕ) (c : Dev nD) (k : Fin 16) (l : List (Fin 16)) (rest : Code F) (Q : PUnit → sProp 𝕄) :
    iprop(base m K ∗ (open_ c (far .out k) ∗ open_ c (far .sent1 k) ∗ open_ c (far .sent2 k)) ∗ debt c (due []))
      ⊢ iprop((((shut m c (far .out k) ∗ shut m c (far .sent1 k) ∗ shut m c (far .sent2 k)) ∗ debt c (due [])) -∗ run c rest Q) -∗ run c (drained c k rest) Q) := by
  unfold drained
  iintro ⟨#HB, ⟨H1, H2, H3⟩, HO⟩ Hk
  iapply (last_wait m K c (far .out k) (src := rb k) (dst := o6 c k) rfl) $$ [H1 HO]
  · isplitr; · iexact HB
    isplitl [H1] <;> iassumption
  iintro ⟨H1, HO⟩
  iapply (last_wait m K c (far .sent1 k) (src := rb k) (dst := sb k) rfl) $$ [H2 HO]
  · isplitr; · iexact HB
    isplitl [H2] <;> iassumption
  iintro ⟨H2, HO⟩
  iapply (last_wait m K c (far .sent2 k) (src := o6 c k) (dst := rb k) rfl) $$ [H3 HO]
  · isplitr; · iexact HB
    isplitl [H3] <;> iassumption
  iintro ⟨H3, HO⟩
  iapply Hk
  isplitr [HO]
  · isplitl [H1]; · iexact H1
    isplitl [H2] <;> iassumption
  iexact HO

end Cert.Gather

end
-- ==== Proof.Body.lean ====
/-
  The whole body on one device: the barrier, then the loops one after another, then every semaphore back at zero.
-/
module

public import proofs.«01_k».proof.Proof.Turns

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Ranging over the parts -/

omit [FloatOps F] in
/-- Something for every part, one kind at a time. -/
theorem split_role (Φ : Role → sProp 𝕄) :
    bigSep Finset.univ Φ = iprop(((bigSep Finset.univ fun k => Φ (far .fetch k)) ∗ (bigSep Finset.univ fun k => Φ (far .out k))
        ∗ (bigSep Finset.univ fun k => Φ (far .sent1 k)) ∗ (bigSep Finset.univ fun k => Φ (far .got1 k))
        ∗ (bigSep Finset.univ fun k => Φ (far .sent2 k)) ∗ (bigSep Finset.univ fun k => Φ (far .got2 k)))
      ∗ ((bigSep Finset.univ fun j => Φ (near .fetch j)) ∗ (bigSep Finset.univ fun j => Φ (near .out j)))) := by
  rw [bigSep_univ_sum, bigSep_univ_prod, bigSep_univ_prod,
    bigSep_univ_eq_bigSepL [Far.fetch, .out, .sent1, .got1, .sent2, .got2] (by decide) (by decide),
    bigSep_univ_eq_bigSepL [Near.fetch, .out] (by decide) (by decide)]
  rfl

omit [FloatOps F] in
/-- Every piece holds what the whole does, so it holds something. -/
theorem spread {A V : Type} [Fintype A] (Φ : V → A → sProp 𝕄) (f : V) :
    (bigSep Finset.univ fun a => Φ f a) ⊢ bigSep Finset.univ fun a => iprop(∃ f, Φ f a) :=
  bigSep_mono fun a _ => show Φ f a ⊢ iprop(∃ f, Φ f a) from by iintro H; iexists f; iexact H

/-- A loop over all of `A`. -/
theorem loop_all {A : Type} [Fintype A] [DecidableEq A] (c : Dev nD) (R : sProp 𝕄) [BI.Persistent R] (Pre Post : A → sProp 𝕄) (Sh : List A → sProp 𝕄)
    (step : A → Code F → Code F)
    (h : ∀ a l rest (Q : PUnit → sProp 𝕄), iprop(R ∗ Pre a ∗ Sh (a :: l)) ⊢ iprop(((Post a ∗ Sh l) -∗ run c rest Q) -∗ run c (step a rest) Q))
    (l : List A) (hn : l.Nodup) (hu : l.toFinset = Finset.univ) (rest : Code F) (Q : PUnit → sProp 𝕄) :
    iprop(R ∗ bigSep Finset.univ Pre ∗ Sh l) ⊢ iprop(((bigSep Finset.univ Post ∗ Sh []) -∗ run c rest Q) -∗ run c (l.foldr step rest) Q) := by
  rw [← hu, sepL_toFinset Pre l hn, sepL_toFinset Post l hn]
  exact loop c R Pre Post Sh step h l rest Q

theorem ks_nodup : ks.Nodup := by decide
theorem ks_all : ks.toFinset = Finset.univ := by decide
theorem js_nodup : js.Nodup := by decide
theorem js_all : js.toFinset = Finset.univ := by decide
theorem js_four : js.flatMap four = ks := by decide

omit [FloatOps F] in
theorem sepL_flatMap {A B : Type} (Φ : B → sProp 𝕄) (f : A → List B) (l : List A) : sepL (l.flatMap f) Φ ⊣⊢ sepL l fun a => sepL (f a) Φ := by
  induction l with
  | nil => exact BiEntails.refl
  | cons a l ih => exact (sepL_append Φ (f a) (l.flatMap f)).trans (sep_congr_right ih)

omit [FloatOps F] in
/-- The travelling chunks, four at a time. -/
theorem by_four (Φ : Fin 16 → sProp 𝕄) : bigSep Finset.univ Φ ⊣⊢ bigSep Finset.univ fun j => sepL (four j) Φ := by
  rw [← ks_all, ← js_all, sepL_toFinset Φ ks ks_nodup, sepL_toFinset _ js js_nodup, ← js_four]
  exact sepL_flatMap Φ four js

/-! ## The barrier -/

/-- A landing row range named by either program. -/
theorem held_o8 (c : Dev nD) (k : Fin 16) (f : Buf (Elt F) ((c : Thread nD τ).loc main_v1)) :
    (held c (o6 (devY c) k) fullShare f : sProp 𝕄) = held c (o8 c k) fullShare f := by
  unfold held; rw [set_o8]

theorem barPay_X (c : Dev nD) : (barPay c false : sProp 𝕄) = bigSep Finset.univ fun k : Fin 16 => iprop(∃ f, held (devX c) (rb k) fullShare f) := by
  unfold barPay; exact if_neg Bool.false_ne_true

theorem barPay_Y (c : Dev nD) : (barPay c true : sProp 𝕄) = bigSep Finset.univ fun k : Fin 16 => iprop(∃ f, held (devY c) (o6 c k) fullShare f) := by
  unfold barPay; exact if_pos rfl

theorem bar_X (c : Dev nD) :
    (bigSep Finset.univ fun k : Fin 16 => iprop(∃ f, held c (rb k) fullShare f) : sProp 𝕄) ⊢ (sched m).payload (barCell (devX c)) 0 false := by
  rw [payload_bar, barPay_X, devX_devX]

theorem bar_Y (c : Dev nD) :
    (bigSep Finset.univ fun k : Fin 16 => iprop(∃ f, held c (o8 c k) fullShare f) : sProp 𝕄) ⊢ (sched m).payload (barCell (devY c)) 0 true := by
  rw [payload_bar, barPay_Y, devY_devY]
  refine bigSep_mono fun k _ => ?_
  show iprop(∃ f, held c (o8 c k) fullShare f) ⊢ iprop(∃ f, held c (o6 (devY c) k) fullShare f)
  iintro ⟨%f, H⟩
  iexists f
  iapply (Entails.of_eq (held_o8 c k f).symm)
  iexact H

theorem barrier_part (K : Dev nD × Part → ℕ) (c : Dev nD) (Q : PUnit → sProp 𝕄) :
    iprop(base m K ∗ (atPos ER (barCell c) 0 ∅ 0 ∗ cred (tallyAt (barCell c) () 2) ∗ dutyTok ER (barCell (devX c)) 0 false ∗ dutyTok ER (barCell (devY c)) 0 true)
        ∗ (bigSep Finset.univ fun k : Fin 16 => iprop(∃ f, held c (rb k) fullShare f)) ∗ (bigSep Finset.univ fun k : Fin 16 => iprop(∃ f, held c (o8 c k) fullShare f))
        ∗ debt c (O₀ c))
      ⊢ iprop(((atPos ER (barCell c) (0 + 1) ∅ 0 ∗ (bigSep Finset.univ fun k : Fin 16 => iprop(∃ f, held (devX c) (rb k) fullShare f))
            ∗ (bigSep Finset.univ fun k : Fin 16 => iprop(∃ f, held (devY c) (o6 c k) fullShare f)) ∗ debt c (O₂ c)) -∗ run c (work c) Q)
          -∗ run c (code c) Q) := by
  unfold debt code
  iintro ⟨#HB, ⟨Hat, Hc, HtX, HtY⟩, Hrb, Ho, ⟨%W, HO⟩⟩ Hk
  ihave #HI := (base_bar m K c) $$ HB
  icases HI with ⟨#HI, -⟩
  ihave #HX := (base_bar m K (devX c)) $$ HB
  icases HX with ⟨#HX, #HrX⟩
  ihave #HY := (base_bar m K (devY c)) $$ HB
  icases HY with ⟨#HY, #HrY⟩
  ihave HpX := (bar_X m c) $$ Hrb
  ihave HpY := (bar_Y m c) $$ Ho
  iapply (Rounds.wp_signal 𝒱₀ ER (sched m) (c : Thread nD τ) none (dst := (devX c : Thread nD τ)) (κ := K (devX c, .inl ()))
      (d := false) (by rw [duties_bar]; exact Finset.mem_univ _) (amount_bar m (devX c) false) () (O₁ c) rfl) $$ [HO HtX HpX]
  · isplitr; · iexact HX
    isplitl [HO]; · iexact HO
    isplitl [HtX]; · iexact HtX
    isplitl [HpX]; · iexact HpX
    iexact HrX
  iintro HO
  iapply (Rounds.wp_signal 𝒱₀ ER (sched m) (c : Thread nD τ) none (dst := (devY c : Thread nD τ)) (κ := K (devY c, .inl ()))
      (d := true) (by rw [duties_bar]; exact Finset.mem_univ _) (amount_bar m (devY c) true) () (O₂ c) rfl) $$ [HO HtY HpY]
  · isplitr; · iexact HY
    isplitl [HO]; · iexact HO
    isplitl [HtY]; · iexact HtY
    isplitl [HpY]; · iexact HpY
    iexact HrY
  iintro HO
  iapply (Rounds.wp_wait_rest_token 𝒱₀ ER (sched m) (c : Thread nD τ) none (κ := K (c, .inl ()))
      (wpE_semWait_eq 𝒱₀ (c : Thread nD τ) none Set.univ) (Set.mem_univ _) () (O := O₂ c) (W := W) (R := 0) (m := 0) (T := ∅)
      (by rw [expect_bar])) $$ [Hc HO Hat]
  · isplitr; · iexact HI
    isplitl [Hc]; · iexact Hc
    isplitl [HO]; · iexact HO
    isplitr
    · iapply (mayWait c (.reg barSem) (O₂ c) (fun g u h => O₂_pos h))
      iapply (base_lev m K); iexact HB
    iexact Hat
  iintro ⟨HO, Hat, -, Hpay⟩
  ihave Hp := (Entails.of_eq (rest_bar m c)) $$ Hpay
  icases Hp with ⟨HpX, HpY⟩
  ihave HpX := (Entails.of_eq (barPay_X c)) $$ HpX
  ihave HpY := (Entails.of_eq (barPay_Y c)) $$ HpY
  iapply Hk
  isplitl [Hat]; · iexact Hat
  isplitl [HpX]; · iexact HpX
  isplitl [HpY]; · iexact HpY
  iexists _; iexact HO

/-! ## What the device starts and ends with -/

/-- The device a part's payment goes to. -/
def payee (c : Dev nD) : Role → Dev nD
  | .inl (.got1, _) => devX c
  | .inl (.got2, _) => devY c
  | _ => c

/-- The rights device `c` starts with. -/
def given (c : Dev nD) : sProp 𝕄 :=
  iprop((atPos ER (barCell c) 0 ∅ 0 ∗ cred (tallyAt (barCell c) () 2) ∗ dutyTok ER (barCell (devX c)) 0 false ∗ dutyTok ER (barCell (devY c)) 0 true)
    ∗ (bigSep Finset.univ fun r : Role => want c r) ∗ (bigSep Finset.univ fun r : Role => tok (payee c r) r)
    ∗ (bigSep Finset.univ fun k : Fin 16 => tick c (far .got1 k)) ∗ (bigSep Finset.univ fun k : Fin 16 => tick c (far .got2 k)))

/-- The scratch buffers, holding anything. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f))

/-- The argument and the result. -/
def arrays (c : Dev nD) (f : Buf (Elt F) ((c : Thread nD τ).loc main_v1)) : sProp 𝕄 :=
  iprop(((c : Thread nD τ).loc main_arg0 ↦{fullShare} CX m c) ∗ ((c : Thread nD τ).loc main_v1 ↦{fullShare} f))

/-- Every semaphore back at zero. -/
def zeroed (c : Dev nD) : sProp 𝕄 := iprop((bigSep Finset.univ fun r : Role => semVal (cell c r) 0) ∗ semVal (barCell c) 0)

/-- All waits over, every semaphore closes at zero. -/
theorem close_all (K : Dev nD × Part → ℕ) (c : Dev nD) :
    iprop(base m K ∗ (bigSep Finset.univ fun r : Role => done c r) ∗ atPos ER (barCell c) (0 + 1) ∅ 0) ⊢ |={Set.univ}=> zeroed c := by
  unfold zeroed
  iintro ⟨#HB, Hd, Hb⟩
  imod (show iprop(base m K ∗ (bigSep Finset.univ fun r : Role => done c r)) ⊢ (|={Set.univ}=> bigSep Finset.univ fun r : Role => semVal (cell c r) 0 : sProp 𝕄) from by
    refine (sep_mono_left (BI.bigSep_of_persistent (Finset.univ : Finset Role) (base m K))).trans ?_
    rw [← bigSep_sep']
    refine (bigSep_mono fun r _ => ?_).trans (bigSep_fupd _ _)
    exact (sep_mono_left ((base_cell m K c r).trans sep_elim_left)).trans
      (Rounds.cell_close ER (sched m) (Set.mem_univ (K (c, .inr r))) (fun h => h) (R := 0 + 1) (duties_later m (cell c r)))) $$ [Hd] with Hz
  · isplitr; · iexact HB
    iexact Hd
  ihave #HI := (base_bar m K c) $$ HB
  icases HI with ⟨#HI, -⟩
  imod (Rounds.cell_close ER (sched m) (Set.mem_univ (K (c, .inl ()))) (fun h => h) (R := 0 + 1) (duties_later m (barCell c))) $$ [Hb] with Hzb
  · isplitr; · iexact HI
    iexact Hb
  imodintro
  isplitl [Hz] <;> iassumption

/-! ## The body -/

theorem fetchS_all (c : Dev nD) : bigSep Finset.univ (fetchSPre m c) = iprop((bigSep Finset.univ fun k => tok c (far .fetch k))
    ∗ (bigSep Finset.univ fun k => held c (xS c k) fullShare (CX m c)) ∗ bigSep Finset.univ fun k => iprop(∃ f, held c (xs k) fullShare f)) := by
  unfold fetchSPre; rw [bigSep_sep', bigSep_sep']

theorem fetchL_all (c : Dev nD) : bigSep Finset.univ (fetchLPre m c) = iprop((bigSep Finset.univ fun j => tok c (near .fetch j))
    ∗ (bigSep Finset.univ fun j => held c (xL c j) fullShare (CX m c)) ∗ bigSep Finset.univ fun j => iprop(∃ f, held c (xl j) fullShare f)) := by
  unfold fetchLPre; rw [bigSep_sep', bigSep_sep']

theorem hop1Pre_all (c : Dev nD) : bigSep Finset.univ (hop1Pre (F := F) c) = iprop((bigSep Finset.univ fun k => want c (far .fetch k))
    ∗ (bigSep Finset.univ fun k => tick c (far .fetch k)) ∗ (bigSep Finset.univ fun k => iprop(∃ f, held c (sb k) fullShare f))
    ∗ (bigSep Finset.univ fun k => tok c (far .sent1 k)) ∗ (bigSep Finset.univ fun k => tok (devX c) (far .got1 k))
    ∗ bigSep Finset.univ fun k => iprop(∃ f, held (devX c) (rb k) fullShare f)) := by
  unfold hop1Pre; rw [bigSep_sep', bigSep_sep', bigSep_sep', bigSep_sep', bigSep_sep']

theorem hop1Post_all (c : Dev nD) : bigSep Finset.univ (hop1Post m c) = iprop((bigSep Finset.univ fun k => done c (far .fetch k))
    ∗ (bigSep Finset.univ fun k => held c (xs k) fullShare (CXS m c)) ∗ (bigSep Finset.univ fun k => held c (xS c k) fullShare (CX m c))
    ∗ bigSep Finset.univ fun k => tick c (far .sent1 k)) := by
  unfold hop1Post; rw [bigSep_sep', bigSep_sep', bigSep_sep']

theorem hop2Pre_all (c : Dev nD) : bigSep Finset.univ (hop2Pre (F := F) c) = iprop((bigSep Finset.univ fun k => want c (far .got1 k))
    ∗ (bigSep Finset.univ fun k => tick c (far .got1 k)) ∗ (bigSep Finset.univ fun k => tok c (far .sent2 k))
    ∗ (bigSep Finset.univ fun k => tok (devY c) (far .got2 k)) ∗ (bigSep Finset.univ fun k => tok c (far .out k))
    ∗ (bigSep Finset.univ fun k => iprop(∃ f, held (devY c) (o6 c k) fullShare f)) ∗ bigSep Finset.univ fun k => iprop(∃ f, held c (o6 c k) fullShare f)) := by
  unfold hop2Pre; rw [bigSep_sep', bigSep_sep', bigSep_sep', bigSep_sep', bigSep_sep', bigSep_sep']

theorem hop2Post_all (c : Dev nD) : bigSep Finset.univ (hop2Post (F := F) c) = iprop((bigSep Finset.univ fun k => done c (far .got1 k))
    ∗ (bigSep Finset.univ fun k => tick c (far .sent2 k)) ∗ bigSep Finset.univ fun k => tick c (far .out k)) := by
  unfold hop2Post; rw [bigSep_sep', bigSep_sep']

theorem keepPre_all (c : Dev nD) : bigSep Finset.univ (keepPre (F := F) c) = iprop((bigSep Finset.univ fun j => want c (near .fetch j))
    ∗ (bigSep Finset.univ fun j => tick c (near .fetch j)) ∗ (bigSep Finset.univ fun j => iprop(∃ f, held c (lb j) fullShare f))
    ∗ (bigSep Finset.univ fun j => tok c (near .out j)) ∗ bigSep Finset.univ fun j => iprop(∃ f, held c (o7 c j) fullShare f)) := by
  unfold keepPre; rw [bigSep_sep', bigSep_sep', bigSep_sep', bigSep_sep']

theorem keepPost_all (c : Dev nD) : bigSep Finset.univ (keepPost m c) = iprop((bigSep Finset.univ fun j => done c (near .fetch j))
    ∗ (bigSep Finset.univ fun j => held c (xl j) fullShare (CXL m c)) ∗ (bigSep Finset.univ fun j => held c (xL c j) fullShare (CX m c))
    ∗ bigSep Finset.univ fun j => tick c (near .out j)) := by
  unfold keepPost; rw [bigSep_sep', bigSep_sep', bigSep_sep']

/-- The middle loop over all its turns. -/
theorem middle_all (K : Dev nD × Part → ℕ) (c : Dev nD) (rest : Code F) (Q : PUnit → sProp 𝕄) :
    iprop(base m K ∗ (bigSep Finset.univ (hop2Pre (F := F) c) ∗ bigSep Finset.univ (keepPre (F := F) c)) ∗ debt c (due (toY c ks)))
      ⊢ iprop((((bigSep Finset.univ (hop2Post (F := F) c) ∗ bigSep Finset.univ (keepPost m c)) ∗ debt c (due [])) -∗ run c rest Q) -∗ run c (js.foldr (middle c) rest) Q) := by
  iintro ⟨#HB, ⟨Hh, Hkp⟩, HO⟩ Hk
  ihave Hh := (by_four (hop2Pre (F := F) c)).1 $$ Hh
  iapply (loop_all c (base m K) (middlePre c) (middlePost m c) (fun l => debt c (due (toY c (l.flatMap four)))) (middle c) (middle_turn m K c) js js_nodup js_all rest Q)
    $$ [Hh Hkp HO]
  · isplitr; · iexact HB
    isplitr [HO]
    · unfold middlePre; rw [bigSep_sep']
      isplitl [Hh] <;> iassumption
    · rw [js_four]; iexact HO
  iintro ⟨Hp, HO⟩
  ihave Hp := (Entails.of_eq (show bigSep Finset.univ (middlePost m c) = iprop((bigSep Finset.univ fun j => sepL (four j) (hop2Post (F := F) c)) ∗ bigSep Finset.univ (keepPost m c)) from by
    unfold middlePost; rw [bigSep_sep'])) $$ Hp
  icases Hp with ⟨Hh, Hkp⟩
  ihave Hh := (by_four (hop2Post (F := F) c)).2 $$ Hh
  iapply Hk
  isplitr [HO]
  · isplitl [Hh] <;> iassumption
  iexact HO

/-- What is left to wait for after the middle loop, and what it gives. -/
theorem tail_part (K : Dev nD × Part → ℕ) (c : Dev nD) (Q : PUnit → sProp 𝕄) :
    iprop(base m K ∗ (bigSep Finset.univ fun k => open_ c (far .got2 k))
        ∗ (bigSep Finset.univ fun k => iprop(open_ c (far .out k) ∗ open_ c (far .sent1 k) ∗ open_ c (far .sent2 k)))
        ∗ (bigSep Finset.univ fun j => open_ c (near .out j)) ∗ debt c (due []))
      ⊢ iprop((((bigSep Finset.univ fun k => shut m c (far .got2 k))
            ∗ (bigSep Finset.univ fun k => iprop(shut m c (far .out k) ∗ shut m c (far .sent1 k) ∗ shut m c (far .sent2 k)))
            ∗ (bigSep Finset.univ fun j => shut m c (near .out j)) ∗ debt c (due [])) -∗ |={Set.univ}=> Q ⟨⟩)
          -∗ run c (ks.foldr (landed c) <| ks.foldr (drained c) <| js.foldr (kept c) (.ret ⟨⟩)) Q) := by
  iintro ⟨#HB, H1, H2, H3, HO⟩ Hk
  iapply (loop_all c (base m K) (fun k => open_ c (far .got2 k)) (fun k => shut m c (far .got2 k)) (fun _ => debt c (due [])) (landed c)
    (landed_turn m K c) ks ks_nodup ks_all _ Q) $$ [H1 HO]
  · isplitr; · iexact HB
    isplitl [H1] <;> iassumption
  iintro ⟨H1, HO⟩
  iapply (loop_all c (base m K) (fun k => iprop(open_ c (far .out k) ∗ open_ c (far .sent1 k) ∗ open_ c (far .sent2 k)))
    (fun k => iprop(shut m c (far .out k) ∗ shut m c (far .sent1 k) ∗ shut m c (far .sent2 k))) (fun _ => debt c (due [])) (drained c)
    (drained_turn m K c) ks ks_nodup ks_all _ Q) $$ [H2 HO]
  · isplitr; · iexact HB
    isplitl [H2] <;> iassumption
  iintro ⟨H2, HO⟩
  iapply (loop_all c (base m K) (fun j => open_ c (near .out j)) (fun j => shut m c (near .out j)) (fun _ => debt c (due [])) (kept c)
    (kept_turn m K c) js js_nodup js_all _ Q) $$ [H3 HO]
  · isplitr; · iexact HB
    isplitl [H3] <;> iassumption
  iintro ⟨H3, HO⟩
  unfold run
  rw [wp_ret]
  iapply Hk
  isplitl [H1]; · iexact H1
  isplitl [H2]; · iexact H2
  isplitl [H3] <;> iassumption

/-- The written-out rows, the second hop's rows and both halves of the landing chunks, as the waits gave them. -/
theorem shut_got2 (c : Dev nD) : (bigSep Finset.univ fun k => shut m c (far .got2 k))
    ⊢ iprop((bigSep Finset.univ fun k => done c (far .got2 k)) ∗ bigSep Finset.univ fun k => held c (o8 c k) fullShare (CO m c)) := by
  rw [← bigSep_sep']
  exact bigSep_mono fun k _ => sep_mono_right (Entails.of_eq (held_o8 c k (CO m c)))

theorem shut_near (c : Dev nD) : (bigSep Finset.univ fun j => shut m c (near .out j))
    = iprop((bigSep Finset.univ fun j => done c (near .out j)) ∗ (bigSep Finset.univ fun j => held c (o7 c j) fullShare (CO m c))
        ∗ bigSep Finset.univ fun j => held c (lb j) fullShare (CLB m c)) := by
  rw [← bigSep_sep', ← bigSep_sep']; rfl

theorem shut_drained (c : Dev nD) : (bigSep Finset.univ fun k => iprop(shut m c (far .out k) ∗ shut m c (far .sent1 k) ∗ shut m c (far .sent2 k)))
    ⊢ iprop((bigSep Finset.univ fun k => done c (far .out k)) ∗ (bigSep Finset.univ fun k => done c (far .sent1 k)) ∗ (bigSep Finset.univ fun k => done c (far .sent2 k))
        ∗ (bigSep Finset.univ fun k => held c (o6 c k) fullShare (CO m c)) ∗ (bigSep Finset.univ fun k => held c (sb k) fullShare (CSB m c))
        ∗ bigSep Finset.univ fun k => held c (rb k) fullShare (CRB m c)) := by
  rw [← bigSep_sep', ← bigSep_sep', ← bigSep_sep', ← bigSep_sep', ← bigSep_sep']
  refine bigSep_mono fun k _ => ?_
  show iprop((done c (far .out k) ∗ held c (o6 c k) fullShare (CO m c) ∗ held c (rb k) fullShare.right (CRB m c))
      ∗ (done c (far .sent1 k) ∗ held c (sb k) fullShare (CSB m c)) ∗ (done c (far .sent2 k) ∗ held c (rb k) fullShare.left (CRB m c))) ⊢ _
  iintro ⟨⟨H1, Ho, Hr⟩, ⟨H2, Hs⟩, ⟨H3, Hl⟩⟩
  isplitl [H1]; · iexact H1
  isplitl [H2]; · iexact H2
  isplitl [H3]; · iexact H3
  isplitl [Ho]; · iexact Ho
  isplitl [Hs]; · iexact Hs
  iapply (halves c k (CRB m c)).2
  isplitl [Hl] <;> iassumption

/-- The body: from the rights, the arrays and the scratch buffers to the result, everything else back. -/
theorem body_run (K : Dev nD × Part → ℕ) (c : Dev nD) (f₀ : Buf (Elt F) ((c : Thread nD τ).loc main_v1)) (Q : PUnit → sProp 𝕄) :
    iprop(base m K ∗ given c ∗ arrays m c f₀ ∗ scratch c ∗ debt c (O₀ c))
      ⊢ iprop(((arrays m c (CO m c) ∗ scratch c ∗ zeroed c ∗ debt c 0) -∗ Q ⟨⟩) -∗ run c (code c) Q) := by
  unfold given arrays scratch
  rw [split_role (fun r => want c r), split_role (fun r => tok (payee c r) r), split_X, split_O c f₀]
  iintro ⟨#HB, ⟨Hbar, ⟨⟨w1, w2, w3, w4, w5, w6⟩, w7, w8⟩, ⟨⟨t1, t2, t3, t4, t5, t6⟩, t7, t8⟩, k4, k6⟩, ⟨⟨x1, x2, x3⟩, o6', o8', o7'⟩,
    ⟨⟨%f1, s1⟩, ⟨%f2, s2⟩, ⟨%f3, s3⟩, ⟨%f4, s4⟩, ⟨%f5, s5⟩⟩, HO⟩ Hk
  ihave s1 := (Entails.of_eq (split_XS c f1)) $$ s1
  ihave s1 := (spread (fun f k => held c (xs k) fullShare f) f1) $$ s1
  ihave s2 := (Entails.of_eq (split_SB c f2)) $$ s2
  ihave s2 := (spread (fun f k => held c (sb k) fullShare f) f2) $$ s2
  ihave s3 := (Entails.of_eq (split_RB c f3)) $$ s3
  ihave s3 := (spread (fun f k => held c (rb k) fullShare f) f3) $$ s3
  ihave s4 := (Entails.of_eq (split_XL c f4)) $$ s4
  ihave s4 := (spread (fun f j => held c (xl j) fullShare f) f4) $$ s4
  ihave s5 := (Entails.of_eq (split_LB c f5)) $$ s5
  ihave s5 := (spread (fun f j => held c (lb j) fullShare f) f5) $$ s5
  ihave o6' := (spread (fun f k => held c (o6 c k) fullShare f) f₀) $$ o6'
  ihave o7' := (spread (fun f j => held c (o7 c j) fullShare f) f₀) $$ o7'
  ihave o8' := (spread (fun f k => held c (o8 c k) fullShare f) f₀) $$ o8'
  iapply (barrier_part m K c Q) $$ [Hbar s3 o8' HO]
  · isplitr; · iexact HB
    isplitl [Hbar]; · iexact Hbar
    isplitl [s3]; · iexact s3
    isplitl [o8'] <;> iassumption
  iintro ⟨Hbar, s3, o8', HO⟩
  unfold work
  iapply (loop_all c (base m K) (fetchSPre m c) (fun k => tick c (far .fetch k)) (fun _ => debt c (O₂ c)) (fetchS c)
    (fetchS_turn m K c (debt c (O₂ c))) ks ks_nodup ks_all _ Q) $$ [t1 x1 s1 HO]
  · isplitr; · iexact HB
    isplitr [HO]
    · rw [fetchS_all]
      isplitl [t1]; · iexact t1
      isplitl [x1] <;> iassumption
    iexact HO
  iintro ⟨k1, HO⟩
  iapply (loop_all c (base m K) (fetchLPre m c) (fun j => tick c (near .fetch j)) (fun _ => debt c (O₂ c)) (fetchL c)
    (fetchL_turn m K c (debt c (O₂ c))) js js_nodup js_all _ Q) $$ [t7 x2 s4 HO]
  · isplitr; · iexact HB
    isplitr [HO]
    · rw [fetchL_all]
      isplitl [t7]; · iexact t7
      isplitl [x2] <;> iassumption
    iexact HO
  iintro ⟨k7, HO⟩
  iapply (loop_all c (base m K) (hop1Pre c) (hop1Post m c) (fun l => debt c (due (toX c l ++ toY c ks))) (hop1 c)
    (hop1_turn m K c) ks ks_nodup ks_all _ Q) $$ [w1 k1 s2 t3 t4 s3 HO]
  · isplitr; · iexact HB
    isplitr [HO]
    · rw [hop1Pre_all]
      isplitl [w1]; · iexact w1
      isplitl [k1]; · iexact k1
      isplitl [s2]; · iexact s2
      isplitl [t3]; · iexact t3
      isplitl [t4]; · iexact t4
      iexact s3
    iexact HO
  iintro ⟨Hp, HO⟩
  ihave Hp := (Entails.of_eq (hop1Post_all m c)) $$ Hp
  icases Hp with ⟨w1, s1, x1, k3⟩
  iapply (middle_all m K c _ Q) $$ [w4 k4 t5 t6 t2 o8' o6' w7 k7 s5 t8 o7' HO]
  · isplitr; · iexact HB
    isplitr [HO]
    · rw [hop2Pre_all, keepPre_all]
      isplitr [w7 k7 s5 t8 o7']
      · isplitl [w4]; · iexact w4
        isplitl [k4]; · iexact k4
        isplitl [t5]; · iexact t5
        isplitl [t6]; · iexact t6
        isplitl [t2]; · iexact t2
        isplitl [o8'] <;> iassumption
      · isplitl [w7]; · iexact w7
        isplitl [k7]; · iexact k7
        isplitl [s5]; · iexact s5
        isplitl [t8]; · iexact t8
        iexact o7'
    iexact HO
  iintro ⟨⟨Hh, Hkp⟩, HO⟩
  ihave Hh := (Entails.of_eq (hop2Post_all (F := F) c)) $$ Hh
  icases Hh with ⟨w4, k5, k2⟩
  ihave Hkp := (Entails.of_eq (keepPost_all m c)) $$ Hkp
  icases Hkp with ⟨w7, s4, x2, k8⟩
  iapply (tail_part m K c Q) $$ [w6 k6 w2 k2 w3 k3 w5 k5 w8 k8 HO]
  · isplitr; · iexact HB
    rw [bigSep_sep', bigSep_sep', bigSep_sep', bigSep_sep', bigSep_sep', bigSep_sep', bigSep_sep']
    isplitl [w6 k6]
    · isplitl [w6] <;> iassumption
    isplitl [w2 k2 w3 k3 w5 k5]
    · isplitl [w2 k2]
      · isplitl [w2] <;> iassumption
      isplitl [w3 k3]
      · isplitl [w3] <;> iassumption
      isplitl [w5] <;> iassumption
    isplitl [w8 k8]
    · isplitl [w8] <;> iassumption
    iexact HO
  iintro ⟨H1, H2, H3, HO⟩
  ihave H1 := (shut_got2 m c) $$ H1
  icases H1 with ⟨w6, o8'⟩
  ihave H2 := (shut_drained m c) $$ H2
  icases H2 with ⟨w2, w3, w5, o6', s2, s3⟩
  ihave H3 := (Entails.of_eq (shut_near m c)) $$ H3
  icases H3 with ⟨w8, o7', s5⟩
  imod (close_all m K c) $$ [w1 w2 w3 w4 w5 w6 w7 w8 Hbar] with Hz
  · isplitr; · iexact HB
    isplitr [Hbar]
    · rw [split_role (fun r => done c r)]
      isplitr [w7 w8]
      · isplitl [w1]; · iexact w1
        isplitl [w2]; · iexact w2
        isplitl [w3]; · iexact w3
        isplitl [w4]; · iexact w4
        isplitl [w5] <;> iassumption
      · isplitl [w7] <;> iassumption
    iexact Hbar
  imodintro
  iapply Hk
  isplitl [x1 x2 x3 o6' o7' o8']
  · rw [split_O]
    isplitl [x1 x2 x3]
    · isplitl [x1]; · iexact x1
      isplitl [x2] <;> iassumption
    · isplitl [o6']; · iexact o6'
      isplitl [o8'] <;> iassumption
  isplitl [s1 s2 s3 s4 s5]
  · isplitl [s1]
    · iexists (CXS m c); rw [split_XS]; iexact s1
    isplitl [s2]
    · iexists (CSB m c); rw [split_SB]; iexact s2
    isplitl [s3]
    · iexists (CRB m c); rw [split_RB]; iexact s3
    isplitl [s4]
    · iexists (CXL m c); rw [split_XL]; iexact s4
    · iexists (CLB m c); rw [split_LB]; iexact s5
  isplitl [Hz]; · iexact Hz
  iexact HO

end Cert.Gather

end
-- ==== Proof.Launch.lean ====
/- The launch: from memory with every counter at zero to each device's body, and from the bodies' ends to the final memory. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The one point -/

/-- What the result array holds at launch. -/
abbrev out₀ (c : Dev nD) : Buf (Elt F) ((c : Thread nD τ).loc main_v1) := m ((c : Thread nD τ).loc main_v1)

/-- The invariants, and the device's own rights. -/
def armed (c : Dev nD) : sProp 𝕄 := iprop(∃ K, base m K ∗ given c)

def before (c : Dev nD) : sProp 𝕄 := iprop(armed m c ∗ arrays m c (out₀ m c) ∗ scratch c)
def after (c : Dev nD) : sProp 𝕄 := iprop(arrays m c (CO m c) ∗ scratch c ∗ zeroed c)

def dats (_ : Fin 1) (c : Dev nD) : Dat τ (Elt F) Unit ℕ UU ℕ cfg0 c where
  A w := m ((cfg0.win w).arr.view.loc (c : Thread nD τ))
  after w _ := Fin.elim0 (show Fin 0 from w)
  Φ t := match t with
    | ⟨0, _⟩ => before m c
    | ⟨_ + 1, _⟩ => after m c
  q _ := fullShare
  owed t := match t with
    | ⟨0, _⟩ => O₀ c
    | ⟨_ + 1, _⟩ => 0

set_option maxRecDepth 100000 in
theorem body_at (t : Fin cfg0.N) : (defs₀ (F := F) Proc.tc cfg0.body (cfg0.bodyArgs t (cfg0.slots t)) : Code F) = bodyAt0 t := rfl

theorem body_start (c : Dev nD) (t : Fin cfg0.N) (Q : PUnit → sProp 𝕄) : run c (code c) Q = run c (bodyAt0 t) Q := by
  rw [body_eq_code]
  unfold run
  rw [wp_deviceId]

theorem body_meets (c : Dev nD) (t : Fin cfg0.N) (Q : PUnit → sProp 𝕄) :
    wp frame (wpE (defs₀ (F := F)) 𝒱₀ (c : Thread nD τ) none) Set.univ (defs₀ (F := F) Proc.tc cfg0.body (cfg0.bodyArgs t (cfg0.slots t))) Q = run c (code c) Q := by
  rw [body_at, body_start c t]

/-- The body, from what the device holds before it to what it holds after. -/
theorem body_ends (c : Dev nD) (t : Fin cfg0.N) (Q : PUnit → sProp 𝕄) (h : iprop(after m c ∗ debt c 0) ⊢ Q ⟨⟩) : iprop(before m c ∗ debt c (O₀ c))
    ⊢ wp frame (wpE (defs₀ (F := F)) 𝒱₀ (c : Thread nD τ) none) Set.univ (defs₀ (F := F) Proc.tc cfg0.body (cfg0.bodyArgs t (cfg0.slots t))) Q := by
  rw [body_meets]
  unfold before armed
  iintro ⟨⟨⟨%K, #HB, Hg⟩, Ha, Hs⟩, HO⟩
  iapply (body_run m K c (out₀ m c) Q) $$ [Hg Ha Hs HO]
  · isplitr; · iexact HB
    isplitl [Hg]; · iexact Hg
    isplitl [Ha]; · iexact Ha
    isplitl [Hs] <;> iassumption
  iintro ⟨Ha, Hs, Hz, HO⟩
  iapply h
  unfold after
  isplitr [HO]
  · isplitl [Ha]; · iexact Ha
    isplitl [Hs] <;> iassumption
  iexact HO

theorem body_obligation (c : Dev nD) : BodyObligation (dats (F := F) m 0 c) (defs₀ (F := F)) 𝒱₀ () Set.univ := fun t => by
  rw [fin_N0 t]
  rw [show (Finset.univ : Finset (Fin cfg0.W)) = ∅ from Finset.univ_eq_empty, bigSep_empty, bigSep_empty,
    show (dats m 0 c).Φ t0_0.castSucc = before m c from rfl, show (dats m 0 c).Φ t0_0.succ = after m c from rfl]
  unfold Dat.owesAt Pipeline.owesWithin
  rw [show (dats m 0 c).owed t0_0.castSucc = O₀ c from rfl, show (dats m 0 c).owed t0_0.succ = 0 from rfl]
  refine BIBase.Entails.trans ?_ (body_ends m c t0_0 _ ?_)
  · iintro ⟨Hb, ⟨%W, -, HO⟩, -⟩
    isplitl [Hb]; · iexact Hb
    unfold debt
    iexists W; iexact HO
  · unfold debt
    iintro ⟨Ha, ⟨%W, HO⟩⟩
    isplitl [Ha]; · iexact Ha
    isplitl [HO]
    · iexists W
      isplitr; · ipureintro; exact fun _ _ => Or.inl trivial
      iexact HO
    iempintro

/-! ## The cells and the rights the launch mints -/

/-- The transfers' semaphores. -/
def osem (r : Role) : SemLoc sig := .dma (semOf r)

set_option maxRecDepth 100000 in
theorem osem_scoped : ∀ r : Role, (osem r).isScoped .tc = true := by decide

theorem ownSemFacts : Pipeline.OwnSemFacts cfg0.spec osem :=
  ⟨osem_scoped, fun r r' h => semOf_inj (SemLoc.dma.inj h), fun _ w => Fin.elim0 (show Fin 0 from w)⟩

theorem share_eq (c : Dev nD) (w : Fin cfg0.W) : (dats m 0 c).share w = fullShare := Fin.elim0 (show Fin 0 from w)

theorem locOf_inj : Function.Injective locOf := by
  rintro (u | r) (u' | r') h
  · rfl
  · exact absurd h (fun h => by cases h)
  · exact absurd h (fun h => by cases h)
  · exact congrArg Sum.inr (semOf_inj (SemLoc.dma.inj h))

theorem kcell_inj : Function.Injective kcell := fun a b h =>
  Prod.ext (congrArg (fun g : GSem nD τ sig => g.1.1) h) (locOf_inj (congrArg Prod.snd h))

def cells : Finset (GSem nD τ sig) := Finset.univ.map ⟨kcell, kcell_inj⟩

/-- The duties of one device's cells: its barrier's two, one of each transfer's. -/
abbrev Duty : Type := Bool ⊕ Role

def dutyAt : Dev nD × Duty → GSem nD τ sig × ℕ × Bool
  | (c, .inl b) => (barCell c, 0, b)
  | (c, .inr r) => (cell c r, 0, false)

theorem dutyAt_inj : Function.Injective dutyAt := by
  rintro ⟨c, b | r⟩ ⟨c', b' | r'⟩ h
  · have h1 : c = c' := congrArg (fun x : GSem nD τ sig × ℕ × Bool => x.1.1.1) h
    have h2 : b = b' := congrArg (fun x : GSem nD τ sig × ℕ × Bool => x.2.2) h
    rw [h1, h2]
  · exact absurd (congrArg (fun x : GSem nD τ sig × ℕ × Bool => x.1.2) h) (fun h => by cases h)
  · exact absurd (congrArg (fun x : GSem nD τ sig × ℕ × Bool => x.1.2) h) (fun h => by cases h)
  · have h1 : c = c' := congrArg (fun x : GSem nD τ sig × ℕ × Bool => x.1.1.1) h
    have h2 : r = r' := semOf_inj (SemLoc.dma.inj (congrArg (fun x : GSem nD τ sig × ℕ × Bool => x.1.2) h))
    rw [h1, h2]

def duties : Finset (GSem nD τ sig × ℕ × Bool) := Finset.univ.map ⟨dutyAt, dutyAt_inj⟩

def u₀ : UU := (initOf (Pipeline.cells cfgs cellOf_inj) (Pipeline.launchToks cfgs cellOf_inj), initOf cells duties)

/-- The rights to pay a device's own cells. -/
def owned (c : Dev nD) : sProp 𝕄 :=
  iprop(dutyTok ER (barCell c) 0 false ∗ dutyTok ER (barCell c) 0 true ∗ bigSep Finset.univ fun r : Role => tok c r)

/-- The rights to pay the cells a device pays. -/
def paying (c : Dev nD) : sProp 𝕄 :=
  iprop(dutyTok ER (barCell (devX c)) 0 false ∗ dutyTok ER (barCell (devY c)) 0 true ∗ bigSep Finset.univ fun r : Role => tok (payee c r) r)

/-- What the launch deals a device. -/
def dealt (c : Dev nD) : sProp 𝕄 :=
  iprop((bigSep Finset.univ fun p : Part => roundState ER (sched m) (kcell (c, p)) 0)
    ∗ (bigSep Finset.univ fun p : Part => reached ER (kcell (c, p)) 0) ∗ (bigSep Finset.univ fun p : Part => atPos ER (kcell (c, p)) 0 ∅ 0) ∗ owned c)

theorem over_cells (Φ : GSem nD τ sig → sProp 𝕄) : bigSep cells Φ = bigSep Finset.univ fun c : Dev nD => bigSep Finset.univ fun p : Part => Φ (kcell (c, p)) := by
  unfold cells; rw [bigSep_map, bigSep_univ_prod]; rfl

theorem over_duties : bigSep duties (fun x => (dutyTok ER x.1 x.2.1 x.2.2 : sProp 𝕄)) = bigSep Finset.univ owned := by
  unfold duties; rw [bigSep_map, bigSep_univ_prod]
  refine bigSep_congr fun c _ => ?_
  rw [bigSep_univ_sum, bigSep_univ_eq_bigSepL [false, true] (by decide) (by decide), bigSepL_cons_cons, bigSepL_singleton]
  exact Entails.antisymm sep_assoc sep_assoc'

theorem mint : BI.own (ER (initOf cells duties)) ⊢ (|==> bigSep Finset.univ (dealt m) : sProp 𝕄) := by
  iintro H
  imod (Rounds.fund ER (sched m) cells duties) $$ H with ⟨Hs, Hr, Ha, Ht⟩
  ihave Hs := (Entails.of_eq (over_cells fun g => roundState ER (sched m) g 0)) $$ Hs
  ihave Hr := (Entails.of_eq (over_cells (F := F) fun g => reached ER g 0)) $$ Hr
  ihave Ha := (Entails.of_eq (over_cells (F := F) fun g => atPos ER g 0 ∅ 0)) $$ Ha
  ihave Ht := (Entails.of_eq (over_duties (F := F))) $$ Ht
  imodintro
  unfold dealt
  rw [bigSep_sep', bigSep_sep', bigSep_sep']
  isplitl [Hs]; · iexact Hs
  isplitl [Hr]; · iexact Hr
  isplitl [Ha] <;> iassumption

theorem ownSems0_eq (c : Dev nD) : (Pipeline.ownSems0 (Ix := Unit) (Name := ℕ) (U := UU) (Lvl := ℕ) (Val := Elt F) (τ := τ) osem c : sProp 𝕄)
    = bigSep Finset.univ fun r : Role => semVal (cell c r) 0 := rfl

theorem unscopedSems0_eq (c : Dev nD) : (unscopedSems0 c : sProp 𝕄) = semVal (barCell c) 0 := by
  unfold unscopedSems0; rw [bigSep_eq_bigSepL_of_eq [SemLoc.reg barSem] (by decide) (by decide)]; rfl

theorem over_parts (Φ : Part → sProp 𝕄) : bigSep Finset.univ Φ = iprop(Φ (.inl ()) ∗ bigSep Finset.univ fun r : Role => Φ (.inr r)) := by
  rw [bigSep_univ_sum]
  exact congrArg (fun P : sProp 𝕄 => iprop(P ∗ bigSep Finset.univ fun r : Role => Φ (.inr r))) (bigSep_singleton (i := ()) (Φ := fun u => Φ (.inl u)))

/-- A device's counters at zero and its minted state make its cells' invariants. -/
theorem alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun p : Part => iprop(∃ κ : ℕ, cellInv ER (sched m) κ (kcell (c, p)) ∗ reached ER (kcell (c, p)) 0))
          ∗ (bigSep Finset.univ fun p : Part => atPos ER (kcell (c, p)) 0 ∅ 0) ∗ owned c) := by
  rw [ownSems0_eq, unscopedSems0_eq]
  unfold dealt
  iintro ⟨Hd, Hb, Hs, Hr, Ha, Ht⟩
  imod (show iprop((bigSep Finset.univ fun p : Part => semVal (kcell (c, p)) 0) ∗ (bigSep Finset.univ fun p : Part => roundState ER (sched m) (kcell (c, p)) 0)
        ∗ bigSep Finset.univ fun p : Part => reached ER (kcell (c, p)) 0)
      ⊢ (|={Set.univ}=> bigSep Finset.univ fun p : Part => iprop(∃ κ : ℕ, cellInv ER (sched m) κ (kcell (c, p)) ∗ reached ER (kcell (c, p)) 0) : sProp 𝕄) from by
    rw [← bigSep_sep', ← bigSep_sep']
    refine (bigSep_mono fun p _ => ?_).trans (bigSep_fupd _ _)
    show iprop(semVal (kcell (c, p)) 0 ∗ roundState ER (sched m) (kcell (c, p)) 0 ∗ reached ER (kcell (c, p)) 0)
      ⊢ |={Set.univ}=> iprop(∃ κ : ℕ, cellInv ER (sched m) κ (kcell (c, p)) ∗ reached ER (kcell (c, p)) 0)
    iintro ⟨Hv, Hs, Hr⟩
    imod ((Rounds.body_intro ER (sched m) (kcell (c, p))).trans inv_alloc) $$ [Hv Hs] with ⟨%κ, Hi⟩
    · isplitl [Hv] <;> iassumption
    imodintro
    iexists κ
    isplitl [Hi]
    · iexact Hi
    · iexact Hr) $$ [Hd Hb Hs Hr] with Hi
  · isplitl [Hd Hb]
    · rw [over_parts]
      isplitl [Hb]
      · iexact Hb
      · iexact Hd
    isplitl [Hs] <;> iassumption
  imodintro
  isplitl [Hi]; · iexact Hi
  isplitl [Ha] <;> iassumption

/-- The bijection of the devices behind a part's payee. -/
def pairOf : Role → (Dev nD ≃ Dev nD)
  | .inl (.got1, _) => pairX
  | .inl (.got2, _) => pairY
  | _ => Equiv.refl _

theorem pairOf_apply (c : Dev nD) : ∀ r : Role, pairOf r c = payee c r
  | .inl (.fetch, _) => rfl
  | .inl (.out, _) => rfl
  | .inl (.sent1, _) => rfl
  | .inl (.got1, _) => rfl
  | .inl (.sent2, _) => rfl
  | .inl (.got2, _) => rfl
  | .inr _ => rfl

theorem swap (Φ : Dev nD → Role → sProp 𝕄) : (bigSep Finset.univ fun c => bigSep Finset.univ fun r => Φ c r) = bigSep Finset.univ fun r => bigSep Finset.univ fun c => Φ c r := by
  rw [← bigSep_univ_prod (fun p : Dev nD × Role => Φ p.1 p.2), ← bigSep_univ_prod (fun p : Role × Dev nD => Φ p.2 p.1),
    bigSep_univ_equiv (Equiv.prodComm (Dev nD) Role) (fun p : Role × Dev nD => Φ p.2 p.1)]
  rfl

/-- The rights to pay, passed to the devices that pay. -/
theorem deal : bigSep Finset.univ (owned (F := F)) = bigSep Finset.univ paying := by
  unfold owned paying
  rw [bigSep_sep', bigSep_sep', bigSep_sep', bigSep_sep', swap, swap (fun (c : Dev nD) (r : Role) => tok (payee c r) r),
    bigSep_univ_equiv pairX (fun c : Dev nD => (dutyTok ER (barCell c) 0 false : sProp 𝕄)),
    bigSep_univ_equiv pairY (fun c : Dev nD => (dutyTok ER (barCell c) 0 true : sProp 𝕄)),
    bigSep_congr fun (r : Role) _ => bigSep_univ_equiv (pairOf r) (fun c : Dev nD => (tok c r : sProp 𝕄))]
  simp only [pairOf_apply]
  rfl

/-- What the launch gives a device besides its credit. -/
def ready (c : Dev nD) : sProp 𝕄 :=
  iprop(∃ K, records m K ∗ (bigSep Finset.univ fun p : Part => atPos ER (kcell (c, p)) 0 ∅ 0) ∗ paying c)

theorem regroup :
    (bigSep Finset.univ fun c : Dev nD => iprop((bigSep Finset.univ fun p : Part => iprop(∃ κ : ℕ, cellInv ER (sched m) κ (kcell (c, p)) ∗ reached ER (kcell (c, p)) 0))
          ∗ (bigSep Finset.univ fun p : Part => atPos ER (kcell (c, p)) 0 ∅ 0) ∗ owned c) : sProp 𝕄)
      ⊢ bigSep Finset.univ (ready m) := by
  rw [bigSep_sep', bigSep_sep', deal,
    ← bigSep_univ_prod (fun ck : Dev nD × Part => iprop(∃ κ : ℕ, cellInv ER (sched m) κ (kcell ck) ∗ reached ER (kcell ck) 0))]
  iintro ⟨HI, Hat, Htok⟩
  ihave HK := (BI.bigSep_exists_pi Finset.univ (fun (ck : Dev nD × Part) (κ : ℕ) => (iprop(cellInv ER (sched m) κ (kcell ck) ∗ reached ER (kcell ck) 0) : sProp 𝕄))) $$ HI
  icases HK with ⟨%K, HI⟩
  iapply (BI.bigSep_with_persistent (R := records m K) (Φ := fun c : Dev nD => iprop((bigSep Finset.univ fun p : Part => atPos ER (kcell (c, p)) 0 ∅ 0) ∗ paying c))
    fun c _ => show _ ⊢ ready m c from by
      unfold ready
      iintro ⟨HR, Hrest⟩
      iexists K
      isplitl [HR] <;> iassumption)
  isplitl [HI]
  · unfold records; iexact HI
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => alloc m c).trans (bigSep_fupd _ _)).trans (BI.fupd_mono (regroup m))

/-! ## The credit -/

theorem cred_one (sm : SemLoc sig) (e : Dev nD ≃ Dev nD) (n : ℕ) (O : Dev nD → CellTallies nD τ sig Unit) (P : sProp 𝕄) (c : Dev nD)
    (h : Pipeline.launchCred O c ⊢ P) :
    Pipeline.launchCred (fun d => O d + tallyAt (((e d : Dev nD) : Thread nD τ), sm) () n) c ⊢ iprop(cred (tallyAt ((c : Thread nD τ), sm) () n) ∗ P) := by
  rw [Pipeline.launchCred_add]
  iintro ⟨H1, H2⟩
  isplitl [H2]
  · iapply (Pipeline.launchCred_tallyAt sm e e.symm e.apply_symm_apply e.symm_apply_apply () n c); iexact H2
  · iapply h; iexact H1

theorem cred_list (f : Far) (e : Dev nD ≃ Dev nD) (O : Dev nD → List (Dev nD × Role)) (P : sProp 𝕄) (c : Dev nD)
    (h : Pipeline.launchCred (fun d => due (O d)) c ⊢ P) (l : List (Fin 16)) :
    Pipeline.launchCred (fun d => due ((l.map fun k => (e d, far f k)) ++ O d)) c ⊢ iprop(sepL l (fun k => tick c (far f k)) ∗ P) := by
  induction l with
  | nil => exact h.trans BI.emp_sep.2
  | cons k l ih => exact (cred_one (.dma (semOf (far f k))) e (amt (far f k)) _ _ c ih).trans sep_assoc'

theorem credit (c : Dev nD) : (Pipeline.launchCred O₀ c : sProp 𝕄)
    ⊢ iprop(cred (tallyAt (barCell c) () 2) ∗ (bigSep Finset.univ fun k : Fin 16 => tick c (far .got1 k)) ∗ (bigSep Finset.univ fun k : Fin 16 => tick c (far .got2 k))) := by
  have h2 := cred_list (F := F) .got2 pairY (fun _ => []) iprop(emp) c (Entails.of_eq (Pipeline.launchCred_zero c)) ks
  simp only [List.append_nil] at h2
  have h1 := cred_list (F := F) .got1 pairX (fun d => toY d ks) _ c h2 ks
  refine (cred_one (.reg barSem) pairX 1 O₁ _ c (cred_one (.reg barSem) pairY 1 O₂ _ c h1)).trans ?_
  rw [← ks_all, sepL_toFinset _ ks ks_nodup, sepL_toFinset _ ks ks_nodup, show (2 : ℕ) = 1 + 1 from rfl, ← tallyAt_add]
  iintro ⟨H1, H2, H3, H4, -⟩
  isplitl [H1 H2]
  · iapply (cred_add _ _).2
    isplitl [H1] <;> iassumption
  isplitl [H3] <;> iassumption

/-! ## The run -/

theorem arm (c : Dev nD) : iprop(ready m c ∗ levAts L lv ∗ Pipeline.launchCred O₀ c) ⊢ armed m c := by
  unfold ready armed given paying base
  iintro ⟨⟨%K, HR, Ha, Ht⟩, HL, HC⟩
  ihave HC := (credit (F := F) c) $$ HC
  icases HC with ⟨Hb, H1, H2⟩
  ihave Ha := (Entails.of_eq (over_parts fun p : Part => (atPos ER (kcell (c, p)) 0 ∅ 0 : sProp 𝕄))) $$ Ha
  icases Ha with ⟨Hab, Ha⟩
  icases Ht with ⟨HtX, HtY, Ht⟩
  iexists K
  isplitl [HR HL]
  · isplitl [HR] <;> iassumption
  isplitl [Hab Hb HtX HtY]
  · isplitl [Hab]; · iexact Hab
    isplitl [Hb]; · iexact Hb
    isplitl [HtX] <;> iassumption
  isplitl [Ha]; · iexact Ha
  isplitl [Ht]; · iexact Ht
  isplitl [H1] <;> iassumption

theorem enter (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop((armed m c ∗ arrays m c (out₀ m c)) ∗ emp) := by
  rw [Pipeline.unscopedRestP_none, unscopedRest0_eq]
  iintro ⟨Ha, HL, HC, -, HR⟩
  imodintro
  isplitl
  · isplitr [Ha]
    · iapply (arm m c)
      isplitl [HR]; · iexact HR
      isplitl [HL] <;> iassumption
    · unfold arrays; iexact Ha
  · iempintro

theorem first (c : Dev nD) :
    iprop((armed m c ∗ arrays m c (out₀ m c)) ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨⟨H1, H2⟩, -, H3⟩
  isplitl [H1]; · iexact H1
  isplitl [H2] <;> iassumption

theorem last (c : Dev nD) :
    (dats m 0 c).Φ (Fin.last cfg0.N) ⊢ iprop((arrays m c (CO m c) ∗ unscopedSems0 c) ∗ Pipeline.ownSems0 osem c ∗ Pipeline.scopedRest cfg0.spec c) := by
  rw [show (dats m 0 c).Φ (Fin.last cfg0.N) = after m c from rfl, scopedRest0_eq, ownSems0_eq, unscopedSems0_eq]
  unfold after scratch zeroed
  iintro ⟨Ha, Hs, Hd, Hb⟩
  isplitl [Ha Hb]
  · isplitl [Ha] <;> iassumption
  isplitl [Hd] <;> iassumption

theorem waits (c : Dev nD) : (levAts L lv : sProp 𝕄) ⊢ Pipeline.cellsWaits cfgs (dats m) () 0 c :=
  Pipeline.cellsWaits_intro cfgs (dats m) () 0 c fun w => Fin.elim0 (show Fin 0 from w)

/-- What the final memory holds on device `c`. -/
def Done (c : Dev nD) (s : MemSt nD τ sig (Elt F)) : Prop :=
  s.mem ((c : Thread nD τ).loc main_arg0) = CX m c ∧ s.mem ((c : Thread nD τ).loc main_v1) = CO m c

theorem read_one (ℓ : Loc nD τ sig) (f : Buf (Elt F) ℓ) (s : Phys nD τ sig (Elt F)) :
    iprop((ℓ ↦{fullShare} f : sProp 𝕄) ∗ SI s) ⊢ iprop(⌜s.mem.mem ℓ = f⌝ ∗ SI s) := by
  iintro ⟨H, HS⟩
  ihave H := (pointsTo_read_all ({()} : Finset Unit) (fun _ => ℓ) (fun _ => f) s) $$ [H HS]
  · isplitl [H]
    · rw [bigSep_singleton]; iexact H
    · iexact HS
  icases H with ⟨%h, HS⟩
  isplitr
  · ipureintro; exact h () (Finset.mem_singleton_self _)
  · iexact HS

theorem read_end (c : Dev nD) (s : Phys nD τ sig (Elt F)) :
    iprop((arrays m c (CO m c) ∗ unscopedSems0 c) ∗ emp ∗ SI s)
      ⊢ |={Set.univ}=> iprop(⌜Done m c s.mem ∧ ∀ sm : SemLoc sig, sm.isScoped .tc = false → s.mem.sem ((c.tc : Thread nD τ), sm) = 0⌝ ∗ SI s) := by
  unfold arrays
  iintro ⟨⟨⟨Hx, Ho⟩, Hu⟩, -, HS⟩
  ihave Hx := (read_one _ (CX m c) s) $$ [Hx HS]
  · isplitl [Hx] <;> iassumption
  icases Hx with ⟨%hx, HS⟩
  ihave Ho := (read_one _ (CO m c) s) $$ [Ho HS]
  · isplitl [Ho] <;> iassumption
  icases Ho with ⟨%ho, HS⟩
  imod (Pipeline.unscopedSems0_read (X := unscopedSems0 c) (c := c) fupd_intro s) $$ [Hu HS] with ⟨%hu, HS⟩
  · isplitl [Hu] <;> iassumption
  imodintro
  isplitr
  · ipureintro; exact ⟨⟨hx, ho⟩, hu⟩
  · iexact HS

set_option maxRecDepth 100000 in
set_option maxHeartbeats 4000000 in
/-- At any float values, from any memory with zero counters, every fair execution on the four devices ends, and its final
    state has each device's result array at the gathered contents, the argument as it was and every counter at zero. -/
theorem run_main (ρ : Dev nD → PrngReg) :
    θ_run defs (onTc (τ := τ) (main (F := F))) ⟨m, fun _ => 0, ρ⟩ (fun r => (∀ c, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 (show Fin 0 from w)) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := fun c => iprop(armed m c ∗ arrays m c (out₀ m c))) (Y := fun c => iprop(arrays m c (CO m c) ∗ unscopedSems0 c)) (Z := fun _ => iprop(emp))
    (hX := enter m ρ) (hin := first m) (hout := last m)
    (QY := fun c s => Done m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.Gather

end
-- ==== Proof.Value.lean ====
/-
  The result against the reference's: the gathered rows and columns are the block of the rounded whole array, and the run
  read as one of the program on bit patterns.
-/
module

public import proofs.«01_k».proof.Proof.Launch
public import proofs.«01_k».proof.Proof.Gen.Kernel
public import proofs.«01_k».proof.Proof.Gen.Kernel.Launch
public import Idealize.ShloMosaic.Lib.Layout

@[expose] public section

noncomputable section

namespace Cert.Gather

open Cert.KernelIdeal Cert.KernelIdeal.Gen
open Idealize.ShloMosaic Idealize.ShloMosaic.TcCoe
open Idealize.SL.Sem

variable {F : FTy → Type} [FloatOps F]

/-! ## Blocks of the whole array -/

/-- The rows' block of a device is the one its first coordinate names. -/
theorem rows_block (c : Fin 4) : Layout.meshLin [2, 2] c.val [0] = c.val / 2 := by revert c; decide

/-- An array cut along nothing is one block. -/
theorem whole_block (c : Fin 4) : Layout.meshLin [2, 2] c.val [] = 0 := rfl

/-- The result's row `r` comes from a device of the half that holds row `r` of the whole. -/
theorem origin_half (c : Dev nD) (r : ℕ) (h : r < 8192) : (origin c r).val / 2 = r / 4096 := by
  have hc := dev_lt c
  unfold origin
  split
  · omega
  · show (2 * (1 - c.val / 2) + (r % 4096) / 2048) % 4 / 2 = r / 4096
    omega

/-- If every device's argument is its block of rows of `X`, its result is its block of columns of `X` rounded. -/
theorem gathered (m : (ℓ : Loc nD τ sig) → Buf (Elt F) ℓ) (X : (⟨2, ![8192, 2048]⟩ : Shape).Idx → Elt F .f32)
    (h : ∀ c : Dev nD, m ((c : Thread nD τ).loc main_arg0)
      = Layout.blockN ⟨2, ![4096, 2048]⟩ ⟨2, ![8192, 2048]⟩ (Layout.meshBlock [2, 2] ![[0], []] c) X) (c : Dev nD) :
    CO m c = Layout.blockN ⟨2, ![8192, 1024]⟩ ⟨2, ![8192, 2048]⟩ (Layout.meshBlock [2, 2] ![[], [0]] c)
      (fun i => cvt (X i)) := by
  funext i
  have hc := dev_lt c
  have h0 : (i 0).val < 8192 := (i 0).isLt
  have h1 : (i 1).val < 1024 := (i 1).isLt
  show cvt (xat m (origin c (i 0).val) ((i 0).val % 4096) (1024 * (c.val / 2) + (i 1).val)) = cvt (X _)
  have hr := origin_half c (i 0).val h0
  unfold xat
  rw [h (origin c (i 0).val)]
  refine congrArg cvt (congrArg X (funext fun b => Fin.ext ?_))
  match b with
  | 0 =>
    show Layout.meshLin [2, 2] (origin c (i 0).val).val [0] * 4096 + (i 0).val % 4096 % 4096
      = Layout.meshLin [2, 2] c.val [] * 8192 + (i 0).val
    rw [rows_block (origin c (i 0).val), whole_block c]
    omega
  | 1 =>
    show Layout.meshLin [2, 2] (origin c (i 0).val).val [] * 2048 + (1024 * (c.val / 2) + (i 1).val) % 2048
      = Layout.meshLin [2, 2] c.val [0] * 1024 + (i 1).val
    rw [rows_block c, whole_block (origin c (i 0).val)]
    omega

/-! ## The program on bit patterns -/

set_option maxRecDepth 100000 in
/-- The two texts are one text, so the run of one is the run of the other. -/
theorem run_kernel (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => (∀ c, Done m c r.2) ∧ r.2.sem = fun _ => 0) :=
  run_main m ρ

end Cert.Gather

end
-- ==== Proof.lean ====
/-
  The seven claims of the certificate, from the gather's run (Proof/Launch.lean), its value (Proof/Value.lean) and the
  references' runs.
-/
module

public import proofs.«01_k».proof.Proof.Launch
public import proofs.«01_k».proof.Proof.Value
public import proofs.«01_k».proof.Proof.Gen.ReferenceIdeal.Run
public import proofs.«01_k».proof.Proof.Gen.Reference.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import Idealize.ShloMosaic.Adequacy
public import Idealize.ShloMosaic.Init

@[expose] public section

noncomputable section

namespace Cert.Proof

open Idealize.ShloMosaic Idealize.SL.Sem

/-! ## The frames -/

/-- The kernel on bit patterns runs, keeps its argument and leaves every counter at zero. -/
theorem frame_kernel : Cert.quiescent_Kernel := fun m g _ =>
  (θ_run (Cert.Kernel.defs (F := Bits)) _ _).mono (fun r h => ⟨fun c => (h.1 c).1, h.2⟩) (Cert.Gather.run_kernel m g)

/-- So does the kernel on extended reals. -/
theorem frame_kernelIdeal : Cert.quiescent_KernelIdeal := fun m g _ =>
  (θ_run (Cert.KernelIdeal.defs (F := Ideal)) _ _).mono (fun r h => ⟨fun c => (h.1 c).1, h.2⟩) (Cert.Gather.run_main m g)

/-- The reference on extended reals keeps its argument; it has no counters. -/
theorem frame_referenceIdeal : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run m g)

/-- So does the reference on bit patterns. -/
theorem frame_reference : Cert.quiescent_Reference := fun m g _ =>
  (θ_run (Cert.Reference.defs (F := Bits)) _ _).mono
    (fun r h => ⟨fun c => (h c).2, sem_eq_zero_of_no_sems (by decide) r.2⟩) (Cert.Reference.Value.run m g)

/-! ## The values -/

/-- On extended reals every device's result is its block of columns of the reference's. -/
theorem algebraic : Cert.algebraic_KernelIdeal_ReferenceIdeal := by
  intro m g m' g' _ hm
  refine ⟨_, ?_, (θ_run (Cert.ReferenceIdeal.defs (F := Ideal)) _ _).mono (fun r h => h 0) (Cert.ReferenceIdeal.Value.run m' g')⟩
  exact (θ_run (Cert.KernelIdeal.defs (F := Ideal)) _ _).mono
    (fun r h c => ⟨(h.1 c).2.trans (Cert.Gather.gathered m _ hm c), (h.1 c).1⟩) (Cert.Gather.run_main m g)

/-- And so on bit patterns. -/
theorem bitexact : Cert.bitexact_Kernel_Reference := by
  intro m g m' g' _ hm
  refine ⟨_, ?_, (θ_run (Cert.Reference.defs (F := Bits)) _ _).mono (fun r h => h 0) (Cert.Reference.Value.run m' g')⟩
  exact (θ_run (Cert.Kernel.defs (F := Bits)) _ _).mono
    (fun r h c => ⟨(h.1 c).2.trans (Cert.Gather.gathered m _ hm c), (h.1 c).1⟩) (Cert.Gather.run_kernel m g)

/-- The claims together. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
